-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lattice_and_finite [hPre_lattice_and_finite : Cert.Pre_lattice_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_lattice_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lattice_and_finite [hPre_lattice_and_finite : Cert.Pre_lattice_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lattice_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_lattice_and_finite [hKernelIdeal : Cert.KernelIdeal.Facts] [hPre_lattice_and_finite : Cert.Pre_lattice_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lattice_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_lattice_and_finite [hReferenceIdeal : Cert.ReferenceIdeal.Facts] [hPre_lattice_and_finite : Cert.Pre_lattice_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lattice_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_lattice_and_finite [hKernelIdeal : Cert.KernelIdeal.Facts] [hReferenceIdeal : Cert.ReferenceIdeal.Facts] [hPre_lattice_and_finite : Cert.Pre_lattice_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lattice_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_lattice_and_finite : Cert.Pre_lattice_and_finite.Facts),
    quiescent_Kernel (hKernel := hKernel)
    ∧ quiescent_KernelIdeal (hKernelIdeal := hKernelIdeal)
    ∧ quiescent_KernelIdeal_pre_lattice_and_finite (hKernelIdeal := hKernelIdeal) (hPre_lattice_and_finite := hPre_lattice_and_finite)
    ∧ quiescent_ReferenceIdeal (hReferenceIdeal := hReferenceIdeal)
    ∧ quiescent_ReferenceIdeal_pre_lattice_and_finite (hReferenceIdeal := hReferenceIdeal) (hPre_lattice_and_finite := hPre_lattice_and_finite)
    ∧ preserves_Kernel_KernelIdeal
    ∧ algebraic_KernelIdeal_ReferenceIdeal_pre_lattice_and_finite (hKernelIdeal := hKernelIdeal) (hReferenceIdeal := hReferenceIdeal) (hPre_lattice_and_finite := hPre_lattice_and_finite)
-- ==== Pre_lattice_and_finite.lean ====
abbrev S2x64x16x16x16 : Shape := ⟨5, ![2, 64, 16, 16, 16]⟩
abbrev S32x64 : Shape := ⟨2, ![32, 64]⟩
abbrev S32 : Shape := ⟨1, ![32]⟩
abbrev S16x64 : Shape := ⟨2, ![16, 64]⟩
abbrev S16 : Shape := ⟨1, ![16]⟩
abbrev S64x32 : Shape := ⟨2, ![64, 32]⟩
abbrev S64 : Shape := ⟨1, ![64]⟩
abbrev S2x64 : Shape := ⟨2, ![2, 64]⟩
abbrev S4096x46 : Shape := ⟨2, ![4096, 46]⟩
abbrev S_ : Shape := ⟨0, ![]⟩
abbrev S1x64 : Shape := ⟨2, ![1, 64]⟩

class Facts : Prop where
  bcast_S_S4096x46 : S_.BroadcastsInDim S4096x46 (![] : Fin 0 → Fin S4096x46.rank)
  reducesTo_S4096x46_S_d0_1 : S4096x46.ReducesTo [0, 1] S_
  h_S_ : 0 < S_.numel
  slices_S2x64_S1x64_0_0 : S2x64.Slices ![0, 0] S1x64
  shapeCasts_S1x64_S64 : S1x64.ShapeCasts S64
  bcast_S_S2x64x16x16x16 : S_.BroadcastsInDim S2x64x16x16x16 (![] : Fin 0 → Fin S2x64x16x16x16.rank)
  reducesTo_S2x64x16x16x16_S_d0_1_2_3_4 : S2x64x16x16x16.ReducesTo [0, 1, 2, 3, 4] S_
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_
  bcast_S_S64 : S_.BroadcastsInDim S64 (![] : Fin 0 → Fin S64.rank)
  reducesTo_S64_S_d0 : S64.ReducesTo [0] S_

variable [Facts]

def fn_where {F : FTy → Type} [FloatOps F] (arg0 : IVec S4096x46 1) (arg1 : IVec S4096x46 32) (arg2 : IVec S4096x46 32) : IVec S4096x46 32 :=
  let v0 : IVec S4096x46 32 := select arg0 arg1 arg2
  v0

def fn_part5 {F : FTy → Type} [FloatOps F] (main_v65 : FVec F S64 .f32) (main_v67 : FVec F S64 .f32) (main_v87 : IVec S_ 1) (main_v90 : IVec S16 1) (main_c_26 : IVec S_ 1) : IVec S_ 1 :=
  let main_v91 : IVec S_ 1 := (fun x v => Host.reduce IntOp.andi x v reducesTo_S16_S_d0 h_S_) main_v90 main_c_26
  let main_v92 : IVec S_ 1 := andi main_v87 main_v91
  let main_v93 : FVec F S64 .f32 := Host.absf main_v65
  let main_cst_27 : FVec F S_ .f32 := constant S_ .f32 0x7F800000#32
  let main_v94 : FVec F S64 .f32 := broadcastInDim S64 ![] bcast_S_S64 main_cst_27
  let main_v95 : IVec S64 1 := cmpf .olt main_v93 main_v94
  let main_c_28 : IVec S_ 1 := constantI S_ 1 1#1
  let main_v96 : IVec S_ 1 := (fun x v => Host.reduce IntOp.andi x v reducesTo_S64_S_d0 h_S_) main_v95 main_c_28
  let main_v97 : IVec S_ 1 := andi main_v92 main_v96
  let main_v98 : FVec F S64 .f32 := Host.absf main_v67
  let main_cst_29 : FVec F S_ .f32 := constant S_ .f32 0x7F800000#32
  let main_v99 : FVec F S64 .f32 := broadcastInDim S64 ![] bcast_S_S64 main_cst_29
  let main_v100 : IVec S64 1 := cmpf .olt main_v98 main_v99
  let main_c_30 : IVec S_ 1 := constantI S_ 1 1#1
  let main_v101 : IVec S_ 1 := (fun x v => Host.reduce IntOp.andi x v reducesTo_S64_S_d0 h_S_) main_v100 main_c_30
  let main_v102 : IVec S_ 1 := andi main_v97 main_v101
  main_v102

def fn_part4 {F : FTy → Type} [FloatOps F] (main_arg4 : FVec F S16 .f32) (main_arg5 : FVec F S16x64 .f32) (main_arg6 : FVec F S16 .f32) (main_v65 : FVec F S64 .f32) (main_v67 : FVec F S64 .f32) (main_v72 : IVec S_ 1) (main_v73 : FVec F S16x64 .f32) (main_cst_19 : FVec F S_ .f32) : IVec S_ 1 :=
  let main_v74 : FVec F S16x64 .f32 := broadcastInDim S16x64 ![] bcast_S_S16x64 main_cst_19
  let main_v75 : IVec S16x64 1 := cmpf .olt main_v73 main_v74
  let main_c_20 : IVec S_ 1 := constantI S_ 1 1#1
  let main_v76 : IVec S_ 1 := (fun x v => Host.reduce IntOp.andi x v reducesTo_S16x64_S_d0_1 h_S_) main_v75 main_c_20
  let main_v77 : IVec S_ 1 := andi main_v72 main_v76
  let main_v78 : FVec F S16 .f32 := Host.absf main_arg4
  let main_cst_21 : FVec F S_ .f32 := constant S_ .f32 0x7F800000#32
  let main_v79 : FVec F S16 .f32 := broadcastInDim S16 ![] bcast_S_S16 main_cst_21
  let main_v80 : IVec S16 1 := cmpf .olt main_v78 main_v79
  let main_c_22 : IVec S_ 1 := constantI S_ 1 1#1
  let main_v81 : IVec S_ 1 := (fun x v => Host.reduce IntOp.andi x v reducesTo_S16_S_d0 h_S_) main_v80 main_c_22
  let main_v82 : IVec S_ 1 := andi main_v77 main_v81
  let main_v83 : FVec F S16x64 .f32 := Host.absf main_arg5
  let main_cst_23 : FVec F S_ .f32 := constant S_ .f32 0x7F800000#32
  let main_v84 : FVec F S16x64 .f32 := broadcastInDim S16x64 ![] bcast_S_S16x64 main_cst_23
  let main_v85 : IVec S16x64 1 := cmpf .olt main_v83 main_v84
  let main_c_24 : IVec S_ 1 := constantI S_ 1 1#1
  let main_v86 : IVec S_ 1 := (fun x v => Host.reduce IntOp.andi x v reducesTo_S16x64_S_d0_1 h_S_) main_v85 main_c_24
  let main_v87 : IVec S_ 1 := andi main_v82 main_v86
  let main_v88 : FVec F S16 .f32 := Host.absf main_arg6
  let main_cst_25 : FVec F S_ .f32 := constant S_ .f32 0x7F800000#32
  let main_v89 : FVec F S16 .f32 := broadcastInDim S16 ![] bcast_S_S16 main_cst_25
  let main_v90 : IVec S16 1 := cmpf .olt main_v88 main_v89
  let main_c_26 : IVec S_ 1 := constantI S_ 1 1#1
  fn_part5 (F := F) main_v65 main_v67 main_v87 main_v90 main_c_26

def fn_part3 {F : FTy → Type} [FloatOps F] (main_arg0 : FVec F S2x64x16x16x16 .f32) (main_arg3 : FVec F S16x64 .f32) (main_arg4 : FVec F S16 .f32) (main_arg5 : FVec F S16x64 .f32) (main_arg6 : FVec F S16 .f32) (main_arg9 : FVec F S2x64 .f32) (main_arg10 : FVec F S2x64 .f32) (main_arg13 : IVec S4096x46 32) (main_v1 : IVec S4096x46 32) (main_v3 : IVec S4096x46 32) (main_v7 : IVec S4096x46 32) (main_v15 : IVec S4096x46 32) (main_v22 : IVec S4096x46 32) (main_v30 : IVec S4096x46 32) (main_v51 : IVec S4096x46 32) (main_v52 : IVec S4096x46 32) (main_v53 : IVec S4096x46 32) : IVec S_ 1 :=
  let main_v54 : IVec S4096x46 32 := addi main_v52 main_v53
  let main_v55 : IVec S4096x46 1 := cmpi .slt main_v1 main_v54
  let main_v56 : IVec S4096x46 32 := fn_where (F := F) main_v55 main_v30 main_v51
  let main_v57 : IVec S4096x46 1 := cmpi .slt main_v1 main_v3
  let main_v58 : IVec S4096x46 32 := addi main_v3 main_v7
  let main_v59 : IVec S4096x46 1 := cmpi .slt main_v1 main_v58
  let main_v60 : IVec S4096x46 32 := fn_where (F := F) main_v59 main_v22 main_v56
  let main_v61 : IVec S4096x46 32 := fn_where (F := F) main_v57 main_v15 main_v60
  let main_v62 : IVec S4096x46 1 := cmpi .eq main_arg13 main_v61
  let main_c_17 : IVec S_ 1 := constantI S_ 1 1#1
  let main_v63 : IVec S_ 1 := (fun x v => Host.reduce IntOp.andi x v reducesTo_S4096x46_S_d0_1 h_S_) main_v62 main_c_17
  let main_v64 : FVec F S1x64 .f32 := (extractStridedSlice S1x64 ![0, 0] · slices_S2x64_S1x64_0_0) main_arg9
  let main_v65 : FVec F S64 .f32 := shapeCast S64 main_v64 shapeCasts_S1x64_S64
  let main_v66 : FVec F S1x64 .f32 := (extractStridedSlice S1x64 ![0, 0] · slices_S2x64_S1x64_0_0) main_arg10
  let main_v67 : FVec F S64 .f32 := shapeCast S64 main_v66 shapeCasts_S1x64_S64
  let main_v68 : FVec F S2x64x16x16x16 .f32 := Host.absf main_arg0
  let main_cst : FVec F S_ .f32 := constant S_ .f32 0x7F800000#32
  let main_v69 : FVec F S2x64x16x16x16 .f32 := broadcastInDim S2x64x16x16x16 ![] bcast_S_S2x64x16x16x16 main_cst
  let main_v70 : IVec S2x64x16x16x16 1 := cmpf .olt main_v68 main_v69
  let main_c_18 : IVec S_ 1 := constantI S_ 1 1#1
  let main_v71 : IVec S_ 1 := (fun x v => Host.reduce IntOp.andi x v reducesTo_S2x64x16x16x16_S_d0_1_2_3_4 h_S_) main_v70 main_c_18
  let main_v72 : IVec S_ 1 := andi main_v63 main_v71
  let main_v73 : FVec F S16x64 .f32 := Host.absf main_arg3
  let main_cst_19 : FVec F S_ .f32 := constant S_ .f32 0x7F800000#32
  fn_part4 (F := F) main_arg4 main_arg5 main_arg6 main_v65 main_v67 main_v72 main_v73 main_cst_19

def fn_part2 {F : FTy → Type} [FloatOps F] (main_arg0 : FVec F S2x64x16x16x16 .f32) (main_arg3 : FVec F S16x64 .f32) (main_arg4 : FVec F S16 .f32) (main_arg5 : FVec F S16x64 .f32) (main_arg6 : FVec F S16 .f32) (main_arg9 : FVec F S2x64 .f32) (main_arg10 : FVec F S2x64 .f32) (main_arg13 : IVec S4096x46 32) (main_v1 : IVec S4096x46 32) (main_v3 : IVec S4096x46 32) (main_v7 : IVec S4096x46 32) (main_v9 : IVec S4096x46 32) (main_v15 : IVec S4096x46 32) (main_v22 : IVec S4096x46 32) (main_v30 : IVec S4096x46 32) (main_v32 : IVec S4096x46 32) (main_v35 : IVec S4096x46 32) : IVec S_ 1 :=
  let main_c_11 : IVec S_ 32 := constantI S_ 32 4#32
  let main_v36 : IVec S4096x46 32 := broadcastInDim S4096x46 ![] bcast_S_S4096x46 main_c_11
  let main_v37 : IVec S4096x46 32 := Host.shli main_v35 main_v36
  let main_v38 : IVec S4096x46 32 := addi main_v32 main_v37
  let main_v39 : IVec S4096x46 32 := addi main_v38 main_v9
  let main_c_12 : IVec S_ 32 := constantI S_ 32 30#32
  let main_v40 : IVec S4096x46 32 := broadcastInDim S4096x46 ![] bcast_S_S4096x46 main_c_12
  let main_v41 : IVec S4096x46 32 := subi main_v1 main_v40
  let main_c_13 : IVec S_ 32 := constantI S_ 32 8#32
  let main_v42 : IVec S4096x46 32 := broadcastInDim S4096x46 ![] bcast_S_S4096x46 main_c_13
  let main_v43 : IVec S4096x46 32 := Host.shli main_v41 main_v42
  let main_c_14 : IVec S_ 32 := constantI S_ 32 4#32
  let main_v44 : IVec S4096x46 32 := broadcastInDim S4096x46 ![] bcast_S_S4096x46 main_c_14
  let main_v45 : IVec S4096x46 32 := Host.shli main_v7 main_v44
  let main_v46 : IVec S4096x46 32 := addi main_v43 main_v45
  let main_v47 : IVec S4096x46 32 := addi main_v46 main_v9
  let main_c_15 : IVec S_ 32 := constantI S_ 32 31#32
  let main_v48 : IVec S4096x46 32 := broadcastInDim S4096x46 ![] bcast_S_S4096x46 main_c_15
  let main_v49 : IVec S4096x46 32 := addi main_v3 main_v48
  let main_v50 : IVec S4096x46 1 := cmpi .slt main_v1 main_v49
  let main_v51 : IVec S4096x46 32 := fn_where (F := F) main_v50 main_v39 main_v47
  let main_v52 : IVec S4096x46 32 := addi main_v3 main_v7
  let main_c_16 : IVec S_ 32 := constantI S_ 32 16#32
  let main_v53 : IVec S4096x46 32 := broadcastInDim S4096x46 ![] bcast_S_S4096x46 main_c_16
  fn_part3 (F := F) main_arg0 main_arg3 main_arg4 main_arg5 main_arg6 main_arg9 main_arg10 main_arg13 main_v1 main_v3 main_v7 main_v15 main_v22 main_v30 main_v51 main_v52 main_v53

def fn_part1 {F : FTy → Type} [FloatOps F] (main_arg0 : FVec F S2x64x16x16x16 .f32) (main_arg3 : FVec F S16x64 .f32) (main_arg4 : FVec F S16 .f32) (main_arg5 : FVec F S16x64 .f32) (main_arg6 : FVec F S16 .f32) (main_arg9 : FVec F S2x64 .f32) (main_arg10 : FVec F S2x64 .f32) (main_arg13 : IVec S4096x46 32) (main_v1 : IVec S4096x46 32) (main_v3 : IVec S4096x46 32) (main_v7 : IVec S4096x46 32) (main_v9 : IVec S4096x46 32) (main_v15 : IVec S4096x46 32) (main_v16 : IVec S4096x46 32) : IVec S_ 1 :=
  let main_v17 : IVec S4096x46 32 := Host.shli main_v3 main_v16
  let main_v18 : IVec S4096x46 32 := subi main_v1 main_v3
  let main_c_6 : IVec S_ 32 := constantI S_ 32 4#32
  let main_v19 : IVec S4096x46 32 := broadcastInDim S4096x46 ![] bcast_S_S4096x46 main_c_6
  let main_v20 : IVec S4096x46 32 := Host.shli main_v18 main_v19
  let main_v21 : IVec S4096x46 32 := addi main_v17 main_v20
  let main_v22 : IVec S4096x46 32 := addi main_v21 main_v9
  let main_c_7 : IVec S_ 32 := constantI S_ 32 8#32
  let main_v23 : IVec S4096x46 32 := broadcastInDim S4096x46 ![] bcast_S_S4096x46 main_c_7
  let main_v24 : IVec S4096x46 32 := Host.shli main_v3 main_v23
  let main_c_8 : IVec S_ 32 := constantI S_ 32 4#32
  let main_v25 : IVec S4096x46 32 := broadcastInDim S4096x46 ![] bcast_S_S4096x46 main_c_8
  let main_v26 : IVec S4096x46 32 := Host.shli main_v7 main_v25
  let main_v27 : IVec S4096x46 32 := addi main_v24 main_v26
  let main_v28 : IVec S4096x46 32 := subi main_v1 main_v3
  let main_v29 : IVec S4096x46 32 := subi main_v28 main_v7
  let main_v30 : IVec S4096x46 32 := addi main_v27 main_v29
  let main_c_9 : IVec S_ 32 := constantI S_ 32 8#32
  let main_v31 : IVec S4096x46 32 := broadcastInDim S4096x46 ![] bcast_S_S4096x46 main_c_9
  let main_v32 : IVec S4096x46 32 := Host.shli main_v3 main_v31
  let main_v33 : IVec S4096x46 32 := subi main_v1 main_v3
  let main_c_10 : IVec S_ 32 := constantI S_ 32 15#32
  let main_v34 : IVec S4096x46 32 := broadcastInDim S4096x46 ![] bcast_S_S4096x46 main_c_10
  let main_v35 : IVec S4096x46 32 := subi main_v33 main_v34
  fn_part2 (F := F) main_arg0 main_arg3 main_arg4 main_arg5 main_arg6 main_arg9 main_arg10 main_arg13 main_v1 main_v3 main_v7 main_v9 main_v15 main_v22 main_v30 main_v32 main_v35

def fn {F : FTy → Type} [FloatOps F] (main_arg0 : FVec F S2x64x16x16x16 .f32) (main_arg1 : FVec F S32x64 .f32) (main_arg2 : FVec F S32 .f32) (main_arg3 : FVec F S16x64 .f32) (main_arg4 : FVec F S16 .f32) (main_arg5 : FVec F S16x64 .f32) (main_arg6 : FVec F S16 .f32) (main_arg7 : FVec F S64x32 .f32) (main_arg8 : FVec F S64 .f32) (main_arg9 : FVec F S2x64 .f32) (main_arg10 : FVec F S2x64 .f32) (main_arg11 : FVec F S64 .f32) (main_arg12 : FVec F S64 .f32) (main_arg13 : IVec S4096x46 32) : IVec S_ 1 :=
  let main_v0 : IVec S4096x46 32 := iotaInDim S4096x46 32 0
  let main_v1 : IVec S4096x46 32 := iotaInDim S4096x46 32 1
  let main_c : IVec S_ 32 := constantI S_ 32 8#32
  let main_v2 : IVec S4096x46 32 := broadcastInDim S4096x46 ![] bcast_S_S4096x46 main_c
  let main_v3 : IVec S4096x46 32 := Host.shrsi main_v0 main_v2
  let main_c_0 : IVec S_ 32 := constantI S_ 32 4#32
  let main_v4 : IVec S4096x46 32 := broadcastInDim S4096x46 ![] bcast_S_S4096x46 main_c_0
  let main_v5 : IVec S4096x46 32 := Host.shrsi main_v0 main_v4
  let main_c_1 : IVec S_ 32 := constantI S_ 32 15#32
  let main_v6 : IVec S4096x46 32 := broadcastInDim S4096x46 ![] bcast_S_S4096x46 main_c_1
  let main_v7 : IVec S4096x46 32 := andi main_v5 main_v6
  let main_c_2 : IVec S_ 32 := constantI S_ 32 15#32
  let main_v8 : IVec S4096x46 32 := broadcastInDim S4096x46 ![] bcast_S_S4096x46 main_c_2
  let main_v9 : IVec S4096x46 32 := andi main_v0 main_v8
  let main_c_3 : IVec S_ 32 := constantI S_ 32 8#32
  let main_v10 : IVec S4096x46 32 := broadcastInDim S4096x46 ![] bcast_S_S4096x46 main_c_3
  let main_v11 : IVec S4096x46 32 := Host.shli main_v1 main_v10
  let main_c_4 : IVec S_ 32 := constantI S_ 32 4#32
  let main_v12 : IVec S4096x46 32 := broadcastInDim S4096x46 ![] bcast_S_S4096x46 main_c_4
  let main_v13 : IVec S4096x46 32 := Host.shli main_v7 main_v12
  let main_v14 : IVec S4096x46 32 := addi main_v11 main_v13
  let main_v15 : IVec S4096x46 32 := addi main_v14 main_v9
  let main_c_5 : IVec S_ 32 := constantI S_ 32 8#32
  let main_v16 : IVec S4096x46 32 := broadcastInDim S4096x46 ![] bcast_S_S4096x46 main_c_5
  fn_part1 (F := F) main_arg0 main_arg3 main_arg4 main_arg5 main_arg6 main_arg9 main_arg10 main_arg13 main_v1 main_v3 main_v7 main_v9 main_v15 main_v16
-- ==== Kernel.lean ====
abbrev S2x64x16x16x16 : Shape := ⟨5, ![2, 64, 16, 16, 16]⟩
abbrev S32x64 : Shape := ⟨2, ![32, 64]⟩
abbrev S32 : Shape := ⟨1, ![32]⟩
abbrev S16x64 : Shape := ⟨2, ![16, 64]⟩
abbrev S16 : Shape := ⟨1, ![16]⟩
abbrev S64x32 : Shape := ⟨2, ![64, 32]⟩
abbrev S64 : Shape := ⟨1, ![64]⟩
abbrev S2x64 : Shape := ⟨2, ![2, 64]⟩
abbrev S4096x46 : Shape := ⟨2, ![4096, 46]⟩
abbrev S2x64x4096 : Shape := ⟨3, ![2, 64, 4096]⟩
abbrev S64x64 : Shape := ⟨2, ![64, 64]⟩
abbrev S64x1 : Shape := ⟨2, ![64, 1]⟩
abbrev S2x64x1 : Shape := ⟨3, ![2, 64, 1]⟩
abbrev S1x1x16x256 : Shape := ⟨4, ![1, 1, 16, 256]⟩
abbrev S1x64x4096 : Shape := ⟨3, ![1, 64, 4096]⟩
abbrev S64x4096 : Shape := ⟨2, ![64, 4096]⟩
abbrev S1x64x1 : Shape := ⟨3, ![1, 64, 1]⟩
abbrev S2x16x4096 : Shape := ⟨3, ![2, 16, 4096]⟩
abbrev S2x16x16x256 : Shape := ⟨4, ![2, 16, 16, 256]⟩
abbrev S2x32x4096 : Shape := ⟨3, ![2, 32, 4096]⟩
abbrev S2x32x16x256 : Shape := ⟨4, ![2, 32, 16, 256]⟩
abbrev S2x16x256 : Shape := ⟨3, ![2, 16, 256]⟩
abbrev S2x4096 : Shape := ⟨2, ![2, 4096]⟩
abbrev S2x1x4096 : Shape := ⟨3, ![2, 1, 4096]⟩
abbrev S2x1x16x256 : Shape := ⟨4, ![2, 1, 16, 256]⟩
abbrev S1x32x4096 : Shape := ⟨3, ![1, 32, 4096]⟩
abbrev S32x4096 : Shape := ⟨2, ![32, 4096]⟩
abbrev S2x16x4x4096 : Shape := ⟨4, ![2, 16, 4, 4096]⟩
abbrev S2x16 : Shape := ⟨2, ![2, 16]⟩
abbrev S2x16x1x1 : Shape := ⟨4, ![2, 16, 1, 1]⟩

abbrev nBuf : Space → Nat
  | .hbm => 24
  | .vmem => 10
  | .smem => 0
  | _ => 0

abbrev bufTy : (tb : Table) → Fin (tcTables nBuf tb) → BufTy
  | .hbm, ⟨0, _⟩ => ⟨S2x64x16x16x16, .f32⟩
  | .hbm, ⟨1, _⟩ => ⟨S32x64, .f32⟩
  | .hbm, ⟨2, _⟩ => ⟨S32, .f32⟩
  | .hbm, ⟨3, _⟩ => ⟨S16x64, .f32⟩
  | .hbm, ⟨4, _⟩ => ⟨S16, .f32⟩
  | .hbm, ⟨5, _⟩ => ⟨S16x64, .f32⟩
  | .hbm, ⟨6, _⟩ => ⟨S16, .f32⟩
  | .hbm, ⟨7, _⟩ => ⟨S64x32, .f32⟩
  | .hbm, ⟨8, _⟩ => ⟨S64, .f32⟩
  | .hbm, ⟨9, _⟩ => ⟨S2x64, .f32⟩
  | .hbm, ⟨10, _⟩ => ⟨S2x64, .f32⟩
  | .hbm, ⟨11, _⟩ => ⟨S64, .f32⟩
  | .hbm, ⟨12, _⟩ => ⟨S64, .f32⟩
  | .hbm, ⟨13, _⟩ => ⟨S4096x46, .i32⟩
  | .hbm, ⟨14, _⟩ => ⟨S2x64x4096, .f32⟩
  | .hbm, ⟨15, _⟩ => ⟨S64x64, .f32⟩
  | .hbm, ⟨16, _⟩ => ⟨S64, .f32⟩
  | .hbm, ⟨17, _⟩ => ⟨S64x1, .f32⟩
  | .hbm, ⟨18, _⟩ => ⟨S64x1, .f32⟩
  | .hbm, ⟨19, _⟩ => ⟨S2x64x1, .f32⟩
  | .hbm, ⟨20, _⟩ => ⟨S2x64x1, .f32⟩
  | .hbm, ⟨21, _⟩ => ⟨S64x1, .f32⟩
  | .hbm, ⟨22, _⟩ => ⟨S64x1, .f32⟩
  | .hbm, ⟨23, _⟩ => ⟨S2x64x4096, .f32⟩
  | .local _ .vmem, ⟨0, _⟩ => ⟨S2x64x4096, .f32⟩
  | .local _ .vmem, ⟨1, _⟩ => ⟨S64x64, .f32⟩
  | .local _ .vmem, ⟨2, _⟩ => ⟨S64x1, .f32⟩
  | .local _ .vmem, ⟨3, _⟩ => ⟨S64x32, .f32⟩
  | .local _ .vmem, ⟨4, _⟩ => ⟨S64x1, .f32⟩
  | .local _ .vmem, ⟨5, _⟩ => ⟨S2x64x1, .f32⟩
  | .local _ .vmem, ⟨6, _⟩ => ⟨S2x64x1, .f32⟩
  | .local _ .vmem, ⟨7, _⟩ => ⟨S64x1, .f32⟩
  | .local _ .vmem, ⟨8, _⟩ => ⟨S64x1, .f32⟩
  | .local _ .vmem, ⟨9, _⟩ => ⟨S2x64x4096, .f32⟩
  | _, _ => ⟨S2x64x16x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S2x64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x64x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S2x64x16x16x16 : Shape := ⟨5, ![2, 64, 16, 16, 16]⟩
abbrev S32x64 : Shape := ⟨2, ![32, 64]⟩
abbrev S32 : Shape := ⟨1, ![32]⟩
abbrev S16x64 : Shape := ⟨2, ![16, 64]⟩
abbrev S16 : Shape := ⟨1, ![16]⟩
abbrev S64x32 : Shape := ⟨2, ![64, 32]⟩
abbrev S64 : Shape := ⟨1, ![64]⟩
abbrev S2x64 : Shape := ⟨2, ![2, 64]⟩
abbrev S4096x46 : Shape := ⟨2, ![4096, 46]⟩
abbrev S2x64x4096 : Shape := ⟨3, ![2, 64, 4096]⟩
abbrev S4096x2x64 : Shape := ⟨3, ![4096, 2, 64]⟩
abbrev S_ : Shape := ⟨0, ![]⟩
abbrev S4096x46x1 : Shape := ⟨3, ![4096, 46, 1]⟩
abbrev S1 : Shape := ⟨1, ![1]⟩
abbrev S1x1x1 : Shape := ⟨3, ![1, 1, 1]⟩
abbrev S4096x46x2x64 : Shape := ⟨4, ![4096, 46, 2, 64]⟩
abbrev S64x16 : Shape := ⟨2, ![64, 16]⟩
abbrev S4096x46x2x16 : Shape := ⟨4, ![4096, 46, 2, 16]⟩
abbrev S1x1x1x16 : Shape := ⟨4, ![1, 1, 1, 16]⟩
abbrev S4096x2x16 : Shape := ⟨3, ![4096, 2, 16]⟩
abbrev S1x1x16 : Shape := ⟨3, ![1, 1, 16]⟩
abbrev S4096x1x2x16 : Shape := ⟨4, ![4096, 1, 2, 16]⟩
abbrev S2x4096x1x16 : Shape := ⟨4, ![2, 4096, 1, 16]⟩
abbrev S2x4096x16x46 : Shape := ⟨4, ![2, 4096, 16, 46]⟩
abbrev S2x4096x1x46 : Shape := ⟨4, ![2, 4096, 1, 46]⟩
abbrev S2x4096x1 : Shape := ⟨3, ![2, 4096, 1]⟩
abbrev S2x4096x1x1 : Shape := ⟨4, ![2, 4096, 1, 1]⟩
abbrev S4096x46x2x32 : Shape := ⟨4, ![4096, 46, 2, 32]⟩
abbrev S1x1x1x32 : Shape := ⟨4, ![1, 1, 1, 32]⟩
abbrev S2x4096x46x32 : Shape := ⟨4, ![2, 4096, 46, 32]⟩
abbrev S2x4096x1x32 : Shape := ⟨4, ![2, 4096, 1, 32]⟩
abbrev S2x4096x32 : Shape := ⟨3, ![2, 4096, 32]⟩
abbrev S2x4096x64 : Shape := ⟨3, ![2, 4096, 64]⟩
abbrev S1x1x64 : Shape := ⟨3, ![1, 1, 64]⟩
abbrev S1x64 : Shape := ⟨2, ![1, 64]⟩
abbrev S2x16x16384 : Shape := ⟨3, ![2, 16, 16384]⟩
abbrev S2x16 : Shape := ⟨2, ![2, 16]⟩
abbrev S2x16x1 : Shape := ⟨3, ![2, 16, 1]⟩
abbrev S1x64x1x1x1 : Shape := ⟨5, ![1, 64, 1, 1, 1]⟩

abbrev nBuf : Space → Nat
  | .hbm => 300
  | .vmem => 0
  | .smem => 0
  | _ => 0

abbrev hbmTy0_0 (i : Nat) : BufTy := match i % 128 with
  | 0 => ⟨S2x64x16x16x16, .f32⟩
  | 1 => ⟨S32x64, .f32⟩
  | 2 => ⟨S32, .f32⟩
  | 3 => ⟨S16x64, .f32⟩
  | 4 => ⟨S16, .f32⟩
  | 5 => ⟨S16x64, .f32⟩
  | 6 => ⟨S16, .f32⟩
  | 7 => ⟨S64x32, .f32⟩
  | 8 => ⟨S64, .f32⟩
  | 9 => ⟨S2x64, .f32⟩
  | 10 => ⟨S2x64, .f32⟩
  | 11 => ⟨S64, .f32⟩
  | 12 => ⟨S64, .f32⟩
  | 13 => ⟨S4096x46, .i32⟩
  | 14 => ⟨S2x64x4096, .f32⟩
  | 15 => ⟨S4096x2x64, .f32⟩
  | 16 => ⟨S_, .i32⟩
  | 17 => ⟨S4096x46, .i32⟩
  | 18 => ⟨S4096x46, .i1⟩
  | 19 => ⟨S_, .i32⟩
  | 20 => ⟨S4096x46, .i32⟩
  | 21 => ⟨S4096x46, .i32⟩
  | 22 => ⟨S4096x46, .i32⟩
  | 23 => ⟨S4096x46x1, .i32⟩
  | 24 => ⟨S1, .i32⟩
  | 25 => ⟨S_, .i32⟩
  | 26 => ⟨S4096x46x1, .i32⟩
  | 27 => ⟨S4096x46x1, .i1⟩
  | 28 => ⟨S1x1x1, .i32⟩
  | 29 => ⟨S4096x46x1, .i32⟩
  | 30 => ⟨S4096x46x1, .i1⟩
  | 31 => ⟨S4096x46x1, .i1⟩
  | 32 => ⟨S_, .i1⟩
  | 33 => ⟨S4096x46, .i1⟩
  | 34 => ⟨S4096x46x2x64, .f32⟩
  | 35 => ⟨S4096x46x2x64, .i1⟩
  | 36 => ⟨S_, .f32⟩
  | 37 => ⟨S4096x46x2x64, .f32⟩
  | 38 => ⟨S4096x46x2x64, .f32⟩
  | 39 => ⟨S64x16, .f32⟩
  | 40 => ⟨S4096x46x2x16, .f32⟩
  | 41 => ⟨S1x1x1x16, .f32⟩
  | 42 => ⟨S4096x46x2x16, .f32⟩
  | 43 => ⟨S4096x46x2x16, .f32⟩
  | 44 => ⟨S64x16, .f32⟩
  | 45 => ⟨S4096x2x16, .f32⟩
  | 46 => ⟨S1x1x16, .f32⟩
  | 47 => ⟨S4096x2x16, .f32⟩
  | 48 => ⟨S4096x2x16, .f32⟩
  | 49 => ⟨S4096x1x2x16, .f32⟩
  | 50 => ⟨S2x4096x1x16, .f32⟩
  | 51 => ⟨S2x4096x16x46, .f32⟩
  | 52 => ⟨S2x4096x1x46, .f32⟩
  | 53 => ⟨S_, .f32⟩
  | 54 => ⟨S2x4096x1, .f32⟩
  | 55 => ⟨S_, .f32⟩
  | 56 => ⟨S2x4096x1, .f32⟩
  | 57 => ⟨S2x4096x1, .f32⟩
  | 58 => ⟨S2x4096x1x1, .f32⟩
  | 59 => ⟨S2x4096x1x46, .f32⟩
  | 60 => ⟨S2x4096x1x46, .f32⟩
  | 61 => ⟨S2x4096x1x46, .f32⟩
  | 62 => ⟨S_, .f32⟩
  | 63 => ⟨S2x4096x1, .f32⟩
  | 64 => ⟨S2x4096x1x1, .f32⟩
  | 65 => ⟨S2x4096x1x46, .f32⟩
  | 66 => ⟨S2x4096x1x46, .f32⟩
  | 67 => ⟨S64x32, .f32⟩
  | 68 => ⟨S4096x46x2x32, .f32⟩
  | 69 => ⟨S1x1x1x32, .f32⟩
  | 70 => ⟨S4096x46x2x32, .f32⟩
  | 71 => ⟨S4096x46x2x32, .f32⟩
  | 72 => ⟨S2x4096x46x32, .f32⟩
  | 73 => ⟨S2x4096x1x32, .f32⟩
  | 74 => ⟨S2x4096x32, .f32⟩
  | 75 => ⟨S32x64, .f32⟩
  | 76 => ⟨S2x4096x64, .f32⟩
  | 77 => ⟨S1x1x64, .f32⟩
  | 78 => ⟨S2x4096x64, .f32⟩
  | 79 => ⟨S2x4096x64, .f32⟩
  | 80 => ⟨S2x64x4096, .f32⟩
  | 81 => ⟨S2x64x16x16x16, .f32⟩
  | 82 => ⟨S1x64, .f32⟩
  | 83 => ⟨S64, .f32⟩
  | 84 => ⟨S1x64, .f32⟩
  | 85 => ⟨S64, .f32⟩
  | 86 => ⟨S2x16x16384, .f32⟩
  | 87 => ⟨S_, .f32⟩
  | 88 => ⟨S2x16, .f32⟩
  | 89 => ⟨S2x16x1, .f32⟩
  | 90 => ⟨S_, .f32⟩
  | 91 => ⟨S2x16x1, .f32⟩
  | 92 => ⟨S2x16x1, .f32⟩
  | 93 => ⟨S_, .i32⟩
  | 94 => ⟨S_, .f32⟩
  | 95 => ⟨S2x16, .f32⟩
  | 96 => ⟨S2x16x1, .f32⟩
  | 97 => ⟨S_, .f32⟩
  | 98 => ⟨S2x16x1, .f32⟩
  | 99 => ⟨S2x16x1, .f32⟩
  | 100 => ⟨S2x16x16384, .f32⟩
  | 101 => ⟨S2x16x16384, .f32⟩
  | 102 => ⟨S2x16x16384, .f32⟩
  | 103 => ⟨S_, .f32⟩
  | 104 => ⟨S_, .f32⟩
  | 105 => ⟨S_, .f32⟩
  | 106 => ⟨S_, .f32⟩
  | 107 => ⟨S2x16, .f32⟩
  | 108 => ⟨S2x16x1, .f32⟩
  | 109 => ⟨S2x16x1, .f32⟩
  | 110 => ⟨S2x16x1, .f32⟩
  | 111 => ⟨S_, .f32⟩
  | 112 => ⟨S_, .i1⟩
  | 113 => ⟨S_, .f32⟩
  | 114 => ⟨S_, .f32⟩
  | 115 => ⟨S2x16x1, .f32⟩
  | 116 => ⟨S2x16x1, .f32⟩
  | 117 => ⟨S2x16x16384, .f32⟩
  | 118 => ⟨S2x16x16384, .f32⟩
  | 119 => ⟨S_, .f32⟩
  | 120 => ⟨S2x16x1, .f32⟩
  | 121 => ⟨S2x16x1, .f32⟩
  | 122 => ⟨S2x16x1, .f32⟩
  | 123 => ⟨S2x16x16384, .f32⟩
  | 124 => ⟨S2x16x16384, .f32⟩
  | 125 => ⟨S2x64x16x16x16, .f32⟩
  | 126 => ⟨S1x64x1x1x1, .f32⟩
  | 127 => ⟨S2x64x16x16x16, .f32⟩
  | _ => ⟨S2x64x16x16x16, .f32⟩

abbrev hbmTy0_1 (i : Nat) : BufTy := match i % 128 with
  | 0 => ⟨S2x64x16x16x16, .f32⟩
  | 1 => ⟨S1x64x1x1x1, .f32⟩
  | 2 => ⟨S2x64x16x16x16, .f32⟩
  | 3 => ⟨S2x64x16x16x16, .f32⟩
  | 4 => ⟨S2x64x16x16x16, .f32⟩
  | 5 => ⟨S2x64x4096, .f32⟩
  | 6 => ⟨S4096x2x64, .f32⟩
  | 7 => ⟨S_, .i32⟩
  | 8 => ⟨S4096x46, .i32⟩
  | 9 => ⟨S4096x46, .i1⟩
  | 10 => ⟨S_, .i32⟩
  | 11 => ⟨S4096x46, .i32⟩
  | 12 => ⟨S4096x46, .i32⟩
  | 13 => ⟨S4096x46, .i32⟩
  | 14 => ⟨S4096x46x1, .i32⟩
  | 15 => ⟨S1, .i32⟩
  | 16 => ⟨S_, .i32⟩
  | 17 => ⟨S4096x46x1, .i32⟩
  | 18 => ⟨S4096x46x1, .i1⟩
  | 19 => ⟨S1x1x1, .i32⟩
  | 20 => ⟨S4096x46x1, .i32⟩
  | 21 => ⟨S4096x46x1, .i1⟩
  | 22 => ⟨S4096x46x1, .i1⟩
  | 23 => ⟨S_, .i1⟩
  | 24 => ⟨S4096x46, .i1⟩
  | 25 => ⟨S4096x46x2x64, .f32⟩
  | 26 => ⟨S4096x46x2x64, .i1⟩
  | 27 => ⟨S_, .f32⟩
  | 28 => ⟨S4096x46x2x64, .f32⟩
  | 29 => ⟨S4096x46x2x64, .f32⟩
  | 30 => ⟨S64x16, .f32⟩
  | 31 => ⟨S4096x46x2x16, .f32⟩
  | 32 => ⟨S1x1x1x16, .f32⟩
  | 33 => ⟨S4096x46x2x16, .f32⟩
  | 34 => ⟨S4096x46x2x16, .f32⟩
  | 35 => ⟨S64x16, .f32⟩
  | 36 => ⟨S4096x2x16, .f32⟩
  | 37 => ⟨S1x1x16, .f32⟩
  | 38 => ⟨S4096x2x16, .f32⟩
  | 39 => ⟨S4096x2x16, .f32⟩
  | 40 => ⟨S4096x1x2x16, .f32⟩
  | 41 => ⟨S2x4096x1x16, .f32⟩
  | 42 => ⟨S2x4096x16x46, .f32⟩
  | 43 => ⟨S2x4096x1x46, .f32⟩
  | 44 => ⟨S_, .f32⟩
  | 45 => ⟨S2x4096x1, .f32⟩
  | 46 => ⟨S_, .f32⟩
  | 47 => ⟨S2x4096x1, .f32⟩
  | 48 => ⟨S2x4096x1, .f32⟩
  | 49 => ⟨S2x4096x1x1, .f32⟩
  | 50 => ⟨S2x4096x1x46, .f32⟩
  | 51 => ⟨S2x4096x1x46, .f32⟩
  | 52 => ⟨S2x4096x1x46, .f32⟩
  | 53 => ⟨S_, .f32⟩
  | 54 => ⟨S2x4096x1, .f32⟩
  | 55 => ⟨S2x4096x1x1, .f32⟩
  | 56 => ⟨S2x4096x1x46, .f32⟩
  | 57 => ⟨S2x4096x1x46, .f32⟩
  | 58 => ⟨S64x32, .f32⟩
  | 59 => ⟨S4096x46x2x32, .f32⟩
  | 60 => ⟨S1x1x1x32, .f32⟩
  | 61 => ⟨S4096x46x2x32, .f32⟩
  | 62 => ⟨S4096x46x2x32, .f32⟩
  | 63 => ⟨S2x4096x46x32, .f32⟩
  | 64 => ⟨S2x4096x1x32, .f32⟩
  | 65 => ⟨S2x4096x32, .f32⟩
  | 66 => ⟨S32x64, .f32⟩
  | 67 => ⟨S2x4096x64, .f32⟩
  | 68 => ⟨S1x1x64, .f32⟩
  | 69 => ⟨S2x4096x64, .f32⟩
  | 70 => ⟨S2x4096x64, .f32⟩
  | 71 => ⟨S2x64x4096, .f32⟩
  | 72 => ⟨S2x64x16x16x16, .f32⟩
  | 73 => ⟨S1x64, .f32⟩
  | 74 => ⟨S64, .f32⟩
  | 75 => ⟨S1x64, .f32⟩
  | 76 => ⟨S64, .f32⟩
  | 77 => ⟨S2x16x16384, .f32⟩
  | 78 => ⟨S_, .f32⟩
  | 79 => ⟨S2x16, .f32⟩
  | 80 => ⟨S2x16x1, .f32⟩
  | 81 => ⟨S_, .f32⟩
  | 82 => ⟨S2x16x1, .f32⟩
  | 83 => ⟨S2x16x1, .f32⟩
  | 84 => ⟨S_, .i32⟩
  | 85 => ⟨S_, .f32⟩
  | 86 => ⟨S2x16, .f32⟩
  | 87 => ⟨S2x16x1, .f32⟩
  | 88 => ⟨S_, .f32⟩
  | 89 => ⟨S2x16x1, .f32⟩
  | 90 => ⟨S2x16x1, .f32⟩
  | 91 => ⟨S2x16x16384, .f32⟩
  | 92 => ⟨S2x16x16384, .f32⟩
  | 93 => ⟨S2x16x16384, .f32⟩
  | 94 => ⟨S_, .f32⟩
  | 95 => ⟨S_, .f32⟩
  | 96 => ⟨S_, .f32⟩
  | 97 => ⟨S_, .f32⟩
  | 98 => ⟨S2x16, .f32⟩
  | 99 => ⟨S2x16x1, .f32⟩
  | 100 => ⟨S2x16x1, .f32⟩
  | 101 => ⟨S2x16x1, .f32⟩
  | 102 => ⟨S_, .f32⟩
  | 103 => ⟨S_, .i1⟩
  | 104 => ⟨S_, .f32⟩
  | 105 => ⟨S_, .f32⟩
  | 106 => ⟨S2x16x1, .f32⟩
  | 107 => ⟨S2x16x1, .f32⟩
  | 108 => ⟨S2x16x16384, .f32⟩
  | 109 => ⟨S2x16x16384, .f32⟩
  | 110 => ⟨S_, .f32⟩
  | 111 => ⟨S2x16x1, .f32⟩
  | 112 => ⟨S2x16x1, .f32⟩
  | 113 => ⟨S2x16x1, .f32⟩
  | 114 => ⟨S2x16x16384, .f32⟩
  | 115 => ⟨S2x16x16384, .f32⟩
  | 116 => ⟨S2x64x16x16x16, .f32⟩
  | 117 => ⟨S1x64x1x1x1, .f32⟩
  | 118 => ⟨S2x64x16x16x16, .f32⟩
  | 119 => ⟨S2x64x16x16x16, .f32⟩
  | 120 => ⟨S1x64x1x1x1, .f32⟩
  | 121 => ⟨S2x64x16x16x16, .f32⟩
  | 122 => ⟨S2x64x16x16x16, .f32⟩
  | 123 => ⟨S2x64x16x16x16, .f32⟩
  | 124 => ⟨S_, .f32⟩
  | 125 => ⟨S64, .f32⟩
  | 126 => ⟨S1x64x1x1x1, .f32⟩
  | 127 => ⟨S_, .f32⟩
  | _ => ⟨S2x64x16x16x16, .f32⟩

abbrev hbmTy0_2 (i : Nat) : BufTy := match i % 128 with
  | 0 => ⟨S1x64x1x1x1, .f32⟩
  | 1 => ⟨S1x64x1x1x1, .f32⟩
  | 2 => ⟨S_, .i32⟩
  | 3 => ⟨S_, .f32⟩
  | 4 => ⟨S64, .f32⟩
  | 5 => ⟨S1x64x1x1x1, .f32⟩
  | 6 => ⟨S_, .f32⟩
  | 7 => ⟨S1x64x1x1x1, .f32⟩
  | 8 => ⟨S1x64x1x1x1, .f32⟩
  | 9 => ⟨S2x64x16x16x16, .f32⟩
  | 10 => ⟨S2x64x16x16x16, .f32⟩
  | 11 => ⟨S2x64x16x16x16, .f32⟩
  | 12 => ⟨S_, .f32⟩
  | 13 => ⟨S_, .f32⟩
  | 14 => ⟨S_, .f32⟩
  | 15 => ⟨S_, .f32⟩
  | 16 => ⟨S64, .f32⟩
  | 17 => ⟨S1x64x1x1x1, .f32⟩
  | 18 => ⟨S1x64x1x1x1, .f32⟩
  | 19 => ⟨S1x64x1x1x1, .f32⟩
  | 20 => ⟨S_, .f32⟩
  | 21 => ⟨S_, .i1⟩
  | 22 => ⟨S_, .f32⟩
  | 23 => ⟨S_, .f32⟩
  | 24 => ⟨S1x64x1x1x1, .f32⟩
  | 25 => ⟨S1x64x1x1x1, .f32⟩
  | 26 => ⟨S2x64x16x16x16, .f32⟩
  | 27 => ⟨S2x64x16x16x16, .f32⟩
  | 28 => ⟨S_, .f32⟩
  | 29 => ⟨S1x64x1x1x1, .f32⟩
  | 30 => ⟨S1x64x1x1x1, .f32⟩
  | 31 => ⟨S1x64x1x1x1, .f32⟩
  | 32 => ⟨S2x64x16x16x16, .f32⟩
  | 33 => ⟨S2x64x16x16x16, .f32⟩
  | 34 => ⟨S1x64x1x1x1, .f32⟩
  | 35 => ⟨S2x64x16x16x16, .f32⟩
  | 36 => ⟨S2x64x16x16x16, .f32⟩
  | 37 => ⟨S1x64x1x1x1, .f32⟩
  | 38 => ⟨S2x64x16x16x16, .f32⟩
  | 39 => ⟨S2x64x16x16x16, .f32⟩
  | 40 => ⟨S_, .f32⟩
  | 41 => ⟨S2x64x16x16x16, .f32⟩
  | 42 => ⟨S2x64x16x16x16, .f32⟩
  | 43 => ⟨S2x64x4096, .f32⟩
  | _ => ⟨S2x64x16x16x16, .f32⟩

abbrev hbmTy (i : Nat) : BufTy := match i / 128 with
  | 0 => hbmTy0_0 i
  | 1 => hbmTy0_1 i
  | 2 => hbmTy0_2 i
  | _ => ⟨S2x64x16x16x16, .f32⟩

abbrev bufTy : (tb : Table) → Fin (tcTables nBuf tb) → BufTy
  | .hbm, ⟨i, _⟩ => hbmTy i
  | _, _ => ⟨S2x64x16x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_cst : Ref sig .tc := ⟨.hbm, 53, rfl⟩
abbrev main_v17 : Ref sig .tc := ⟨.hbm, 54, rfl⟩
abbrev main_cst_0 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_1 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_2 : Ref sig .tc := ⟨.hbm, 87, rfl⟩
abbrev main_v48 : Ref sig .tc := ⟨.hbm, 88, rfl⟩
abbrev main_v49 : Ref sig .tc := ⟨.hbm, 89, rfl⟩
abbrev main_cst_3 : Ref sig .tc := ⟨.hbm, 90, rfl⟩
abbrev main_v50 : Ref sig .tc := ⟨.hbm, 91, rfl⟩
abbrev main_v51 : Ref sig .tc := ⟨.hbm, 92, rfl⟩
abbrev main_c : Ref sig .tc := ⟨.hbm, 93, rfl⟩
abbrev main_call1_cst : Ref sig .tc := ⟨.hbm, 94, rfl⟩
abbrev main_call1_v0 : Ref sig .tc := ⟨.hbm, 95, rfl⟩
abbrev main_call1_v1 : Ref sig .tc := ⟨.hbm, 96, rfl⟩
abbrev main_call1_cst_0 : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_call1_v5 : Ref sig .tc := ⟨.hbm, 101, rfl⟩
abbrev main_call1_v6 : Ref sig .tc := ⟨.hbm, 102, rfl⟩
abbrev main_call1_v7 : Ref sig .tc := ⟨.hbm, 103, rfl⟩
abbrev main_call1_cst_1 : Ref sig .tc := ⟨.hbm, 104, rfl⟩
abbrev main_call1_v8 : Ref sig .tc := ⟨.hbm, 105, rfl⟩
abbrev main_call1_cst_2 : Ref sig .tc := ⟨.hbm, 106, rfl⟩
abbrev main_call1_v9 : Ref sig .tc := ⟨.hbm, 107, rfl⟩
abbrev main_call1_v10 : Ref sig .tc := ⟨.hbm, 108, rfl⟩
abbrev main_call1_v11 : Ref sig .tc := ⟨.hbm, 109, rfl⟩
abbrev main_call1_v12 : Ref sig .tc := ⟨.hbm, 110, rfl⟩
abbrev main_call1_cst_3 : Ref sig .tc := ⟨.hbm, 111, rfl⟩
abbrev main_call1_v13 : Ref sig .tc := ⟨.hbm, 112, rfl⟩
abbrev main_call1_cst_4 : Ref sig .tc := ⟨.hbm, 113, rfl⟩
abbrev main_call1_call0_v0 : Ref sig .tc := ⟨.hbm, 114, rfl⟩
abbrev main_call1_call0_v1 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_cst_4 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_call2_c : Ref sig .tc := ⟨.hbm, 135, rfl⟩
abbrev main_call2_v0 : Ref sig .tc := ⟨.hbm, 136, rfl⟩
abbrev main_call2_v1 : Ref sig .tc := ⟨.hbm, 137, rfl⟩
abbrev main_call2_c_0 : Ref sig .tc := ⟨.hbm, 138, rfl⟩
abbrev main_call2_v2 : Ref sig .tc := ⟨.hbm, 139, rfl⟩
abbrev main_call2_v3 : Ref sig .tc := ⟨.hbm, 140, rfl⟩
abbrev main_call2_v4 : Ref sig .tc := ⟨.hbm, 141, rfl⟩
abbrev main_call2_v5 : Ref sig .tc := ⟨.hbm, 142, rfl⟩
abbrev main_call2_c_1 : Ref sig .tc := ⟨.hbm, 143, rfl⟩
abbrev main_call2_c_2 : Ref sig .tc := ⟨.hbm, 144, rfl⟩
abbrev main_call2_v6 : Ref sig .tc := ⟨.hbm, 145, rfl⟩
abbrev main_call2_v7 : Ref sig .tc := ⟨.hbm, 146, rfl⟩
abbrev main_call2_v8 : Ref sig .tc := ⟨.hbm, 147, rfl⟩
abbrev main_call2_v9 : Ref sig .tc := ⟨.hbm, 148, rfl⟩
abbrev main_call2_v10 : Ref sig .tc := ⟨.hbm, 149, rfl⟩
abbrev main_call2_v11 : Ref sig .tc := ⟨.hbm, 150, rfl⟩
abbrev main_call2_c_3 : Ref sig .tc := ⟨.hbm, 151, rfl⟩
abbrev main_call2_v12 : Ref sig .tc := ⟨.hbm, 152, rfl⟩
abbrev main_call2_v13 : Ref sig .tc := ⟨.hbm, 153, rfl⟩
abbrev main_call2_v14 : Ref sig .tc := ⟨.hbm, 154, rfl⟩
abbrev main_call2_cst : Ref sig .tc := ⟨.hbm, 155, rfl⟩
abbrev main_call2_v15 : Ref sig .tc := ⟨.hbm, 156, rfl⟩
abbrev main_v70 : Ref sig .tc := ⟨.hbm, 157, rfl⟩
abbrev main_v71 : Ref sig .tc := ⟨.hbm, 158, rfl⟩
abbrev main_v72 : Ref sig .tc := ⟨.hbm, 159, rfl⟩
abbrev main_v73 : Ref sig .tc := ⟨.hbm, 160, rfl⟩
abbrev main_v74 : Ref sig .tc := ⟨.hbm, 161, rfl⟩
abbrev main_v75 : Ref sig .tc := ⟨.hbm, 162, rfl⟩
abbrev main_v76 : Ref sig .tc := ⟨.hbm, 163, rfl⟩
abbrev main_v77 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩
abbrev main_cst_5 : Ref sig .tc := ⟨.hbm, 172, rfl⟩
abbrev main_v85 : Ref sig .tc := ⟨.hbm, 173, rfl⟩
abbrev main_cst_6 : Ref sig .tc := ⟨.hbm, 174, rfl⟩
abbrev main_v86 : Ref sig .tc := ⟨.hbm, 175, rfl⟩
abbrev main_v87 : Ref sig .tc := ⟨.hbm, 176, rfl⟩
abbrev main_v88 : Ref sig .tc := ⟨.hbm, 177, rfl⟩
abbrev main_v89 : Ref sig .tc := ⟨.hbm, 178, rfl⟩
abbrev main_v90 : Ref sig .tc := ⟨.hbm, 179, rfl⟩
abbrev main_v91 : Ref sig .tc := ⟨.hbm, 180, rfl⟩
abbrev main_cst_7 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_v103 : Ref sig .tc := ⟨.hbm, 193, rfl⟩
abbrev main_v104 : Ref sig .tc := ⟨.hbm, 194, rfl⟩
abbrev main_v105 : Ref sig .tc := ⟨.hbm, 195, rfl⟩
abbrev main_v106 : Ref sig .tc := ⟨.hbm, 196, rfl⟩
abbrev main_v107 : Ref sig .tc := ⟨.hbm, 197, rfl⟩
abbrev main_v108 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_v112 : Ref sig .tc := ⟨.hbm, 202, rfl⟩
abbrev main_v113 : Ref sig .tc := ⟨.hbm, 203, rfl⟩
abbrev main_v114 : Ref sig .tc := ⟨.hbm, 204, rfl⟩
abbrev main_v115 : Ref sig .tc := ⟨.hbm, 205, rfl⟩
abbrev main_cst_8 : Ref sig .tc := ⟨.hbm, 206, rfl⟩
abbrev main_v116 : Ref sig .tc := ⟨.hbm, 207, rfl⟩
abbrev main_v117 : Ref sig .tc := ⟨.hbm, 208, rfl⟩
abbrev main_cst_9 : Ref sig .tc := ⟨.hbm, 209, rfl⟩
abbrev main_v118 : Ref sig .tc := ⟨.hbm, 210, rfl⟩
abbrev main_v119 : Ref sig .tc := ⟨.hbm, 211, rfl⟩
abbrev main_c_10 : Ref sig .tc := ⟨.hbm, 212, rfl⟩
abbrev main_call3_cst : Ref sig .tc := ⟨.hbm, 213, rfl⟩
abbrev main_call3_v0 : Ref sig .tc := ⟨.hbm, 214, rfl⟩
abbrev main_call3_v1 : Ref sig .tc := ⟨.hbm, 215, rfl⟩
abbrev main_call3_cst_0 : Ref sig .tc := ⟨.hbm, 216, rfl⟩
abbrev main_call3_v2 : Ref sig .tc := ⟨.hbm, 217, rfl⟩
abbrev main_call3_v3 : Ref sig .tc := ⟨.hbm, 218, rfl⟩
abbrev main_call3_v4 : Ref sig .tc := ⟨.hbm, 219, rfl⟩
abbrev main_call3_v5 : Ref sig .tc := ⟨.hbm, 220, rfl⟩
abbrev main_call3_v6 : Ref sig .tc := ⟨.hbm, 221, rfl⟩
abbrev main_call3_v7 : Ref sig .tc := ⟨.hbm, 222, rfl⟩
abbrev main_call3_cst_1 : Ref sig .tc := ⟨.hbm, 223, rfl⟩
abbrev main_call3_v8 : Ref sig .tc := ⟨.hbm, 224, rfl⟩
abbrev main_call3_cst_2 : Ref sig .tc := ⟨.hbm, 225, rfl⟩
abbrev main_call3_v9 : Ref sig .tc := ⟨.hbm, 226, rfl⟩
abbrev main_call3_v10 : Ref sig .tc := ⟨.hbm, 227, rfl⟩
abbrev main_call3_v11 : Ref sig .tc := ⟨.hbm, 228, rfl⟩
abbrev main_call3_v12 : Ref sig .tc := ⟨.hbm, 229, rfl⟩
abbrev main_call3_cst_3 : Ref sig .tc := ⟨.hbm, 230, rfl⟩
abbrev main_call3_v13 : Ref sig .tc := ⟨.hbm, 231, rfl⟩
abbrev main_call3_cst_4 : Ref sig .tc := ⟨.hbm, 232, rfl⟩
abbrev main_call3_call0_v0 : Ref sig .tc := ⟨.hbm, 233, rfl⟩
abbrev main_call3_call0_v1 : Ref sig .tc := ⟨.hbm, 234, rfl⟩
abbrev main_v120 : Ref sig .tc := ⟨.hbm, 235, rfl⟩
abbrev main_v121 : Ref sig .tc := ⟨.hbm, 236, rfl⟩
abbrev main_v122 : Ref sig .tc := ⟨.hbm, 237, rfl⟩
abbrev main_cst_11 : Ref sig .tc := ⟨.hbm, 238, rfl⟩
abbrev main_v123 : Ref sig .tc := ⟨.hbm, 239, rfl⟩
abbrev main_v124 : Ref sig .tc := ⟨.hbm, 240, rfl⟩
abbrev main_v125 : Ref sig .tc := ⟨.hbm, 241, rfl⟩
abbrev main_v126 : Ref sig .tc := ⟨.hbm, 242, rfl⟩
abbrev main_v127 : Ref sig .tc := ⟨.hbm, 243, rfl⟩
abbrev main_v128 : Ref sig .tc := ⟨.hbm, 244, rfl⟩
abbrev main_v129 : Ref sig .tc := ⟨.hbm, 245, rfl⟩
abbrev main_v130 : Ref sig .tc := ⟨.hbm, 246, rfl⟩
abbrev main_v131 : Ref sig .tc := ⟨.hbm, 247, rfl⟩
abbrev main_v132 : Ref sig .tc := ⟨.hbm, 248, rfl⟩
abbrev main_v133 : Ref sig .tc := ⟨.hbm, 249, rfl⟩
abbrev main_v134 : Ref sig .tc := ⟨.hbm, 250, rfl⟩
abbrev main_v135 : Ref sig .tc := ⟨.hbm, 251, rfl⟩
abbrev main_cst_12 : Ref sig .tc := ⟨.hbm, 252, rfl⟩
abbrev main_v136 : Ref sig .tc := ⟨.hbm, 253, rfl⟩
abbrev main_v137 : Ref sig .tc := ⟨.hbm, 254, rfl⟩
abbrev main_cst_13 : Ref sig .tc := ⟨.hbm, 255, rfl⟩
abbrev main_v138 : Ref sig .tc := ⟨.hbm, 256, rfl⟩
abbrev main_v139 : Ref sig .tc := ⟨.hbm, 257, rfl⟩
abbrev main_c_14 : Ref sig .tc := ⟨.hbm, 258, rfl⟩
abbrev main_call4_cst : Ref sig .tc := ⟨.hbm, 259, rfl⟩
abbrev main_call4_v0 : Ref sig .tc := ⟨.hbm, 260, rfl⟩
abbrev main_call4_v1 : Ref sig .tc := ⟨.hbm, 261, rfl⟩
abbrev main_call4_cst_0 : Ref sig .tc := ⟨.hbm, 262, rfl⟩
abbrev main_call4_v2 : Ref sig .tc := ⟨.hbm, 263, rfl⟩
abbrev main_call4_v3 : Ref sig .tc := ⟨.hbm, 264, rfl⟩
abbrev main_call4_v4 : Ref sig .tc := ⟨.hbm, 265, rfl⟩
abbrev main_call4_v5 : Ref sig .tc := ⟨.hbm, 266, rfl⟩
abbrev main_call4_v6 : Ref sig .tc := ⟨.hbm, 267, rfl⟩
abbrev main_call4_v7 : Ref sig .tc := ⟨.hbm, 268, rfl⟩
abbrev main_call4_cst_1 : Ref sig .tc := ⟨.hbm, 269, rfl⟩
abbrev main_call4_v8 : Ref sig .tc := ⟨.hbm, 270, rfl⟩
abbrev main_call4_cst_2 : Ref sig .tc := ⟨.hbm, 271, rfl⟩
abbrev main_call4_v9 : Ref sig .tc := ⟨.hbm, 272, rfl⟩
abbrev main_call4_v10 : Ref sig .tc := ⟨.hbm, 273, rfl⟩
abbrev main_call4_v11 : Ref sig .tc := ⟨.hbm, 274, rfl⟩
abbrev main_call4_v12 : Ref sig .tc := ⟨.hbm, 275, rfl⟩
abbrev main_call4_cst_3 : Ref sig .tc := ⟨.hbm, 276, rfl⟩
abbrev main_call4_v13 : Ref sig .tc := ⟨.hbm, 277, rfl⟩
abbrev main_call4_cst_4 : Ref sig .tc := ⟨.hbm, 278, rfl⟩
abbrev main_call4_call0_v0 : Ref sig .tc := ⟨.hbm, 279, rfl⟩
abbrev main_call4_call0_v1 : Ref sig .tc := ⟨.hbm, 280, rfl⟩
abbrev main_v140 : Ref sig .tc := ⟨.hbm, 281, rfl⟩
abbrev main_v141 : Ref sig .tc := ⟨.hbm, 282, rfl⟩
abbrev main_v142 : Ref sig .tc := ⟨.hbm, 283, rfl⟩
abbrev main_cst_15 : Ref sig .tc := ⟨.hbm, 284, rfl⟩
abbrev main_v143 : Ref sig .tc := ⟨.hbm, 285, rfl⟩
abbrev main_v144 : Ref sig .tc := ⟨.hbm, 286, rfl⟩
abbrev main_v145 : Ref sig .tc := ⟨.hbm, 287, rfl⟩
abbrev main_v146 : Ref sig .tc := ⟨.hbm, 288, rfl⟩
abbrev main_v147 : Ref sig .tc := ⟨.hbm, 289, rfl⟩
abbrev main_v148 : Ref sig .tc := ⟨.hbm, 290, rfl⟩
abbrev main_v149 : Ref sig .tc := ⟨.hbm, 291, rfl⟩
abbrev main_v150 : Ref sig .tc := ⟨.hbm, 292, rfl⟩
abbrev main_v151 : Ref sig .tc := ⟨.hbm, 293, rfl⟩
abbrev main_v152 : Ref sig .tc := ⟨.hbm, 294, rfl⟩
abbrev main_v153 : Ref sig .tc := ⟨.hbm, 295, rfl⟩
abbrev main_call5_cst : Ref sig .tc := ⟨.hbm, 296, rfl⟩
abbrev main_call5_v0 : Ref sig .tc := ⟨.hbm, 297, rfl⟩
abbrev main_v154 : Ref sig .tc := ⟨.hbm, 298, rfl⟩
abbrev main_v155 : Ref sig .tc := ⟨.hbm, 299, rfl⟩

abbrev nD : Nat := 1
abbrev τ : Topo := Topo.v7x

variable {F : FTy → Type} [FloatOps F]
-- ==== Proof.Model.lean ====
/-
  The layer as plain functions of real numbers, and the three facts the two programs differ by: the sum over the 46
  neighbours of a voxel is the sum over its three lines less twice the voxel itself; a softmax does not see the
  numbers its logits are shifted by; and the mean of the squared deviations is the mean square less the squared mean.
-/
module
public import Idealize.ShloMosaic.Lib.Pointwise
public import Mathlib.Tactic.Ring
public import Mathlib.Tactic.FieldSimp
public import Mathlib.Tactic.Positivity

@[expose] public section

set_option maxRecDepth 16384

noncomputable section

namespace Cert.Model

open Finset

/-! ### The lattice -/

/-- The voxel of depth `d`, row `h` and column `w`. -/
def vox (d h w : Fin 16) : Fin 4096 := ⟨d.val * 256 + h.val * 16 + w.val, by omega⟩

def dep (n : Fin 4096) : Fin 16 := ⟨n.val / 256, by omega⟩
def hei (n : Fin 4096) : Fin 16 := ⟨n.val / 16 % 16, by omega⟩
def wid (n : Fin 4096) : Fin 16 := ⟨n.val % 16, by omega⟩

theorem vox_self (n : Fin 4096) : vox (dep n) (hei n) (wid n) = n := by
  apply Fin.ext; simp only [vox, dep, hei, wid]; omega

/-- Neighbour `k` of voxel `n`: the voxels of its three lines in rising order. -/
def nbrNat (n k : ℕ) : ℕ :=
  if k < n / 256 then k * 256 + n / 16 % 16 * 16 + n % 16
  else if k < n / 256 + n / 16 % 16 then n / 256 * 256 + (k - n / 256) * 16 + n % 16
  else if k < n / 256 + n / 16 % 16 + 16 then n / 256 * 256 + n / 16 % 16 * 16 + (k - n / 256 - n / 16 % 16)
  else if k < n / 256 + 31 then n / 256 * 256 + (k - n / 256 - 15) * 16 + n % 16
  else (k - 30) * 256 + n / 16 % 16 * 16 + n % 16

theorem nbrNat_lt (n : Fin 4096) (k : Fin 46) : nbrNat n k < 4096 := by
  unfold nbrNat; split_ifs <;> omega

def nbr (n : Fin 4096) (k : Fin 46) : Fin 4096 := ⟨nbrNat n k, nbrNat_lt n k⟩

/-- A sum over sixteen places, split at one of them. -/
theorem sum_split (A : ℕ → ℝ) (d : ℕ) (hd : d < 16) :
    ∑ k ∈ range 16, A k = ∑ k ∈ range d, A k + A d + ∑ k ∈ range (15 - d), A (d + 1 + k) := by
  have e : 16 = (d + 1) + (15 - d) := by omega
  rw [e, sum_range_add, sum_range_succ]

theorem sum_nbr (f : Fin 4096 → ℝ) (n : Fin 4096) :
    ∑ k : Fin 46, f (nbr n k)
      = ∑ i, f (vox i (hei n) (wid n)) + ∑ i, f (vox (dep n) i (wid n)) + ∑ i, f (vox (dep n) (hei n) i) - 2 * f n := by
  let F : ℕ → ℝ := fun m => if h : m < 4096 then f ⟨m, h⟩ else 0
  have hF : ∀ m : Fin 4096, f m = F m := fun m => by simp [F]
  have hv : ∀ a b c, f (vox a b c) = F (a.val * 256 + b.val * 16 + c.val) := fun a b c => hF _
  obtain ⟨m, hm⟩ := n
  have hd : m / 256 < 16 := by omega
  have hh : m / 16 % 16 < 16 := by omega
  simp only [hv, hF ⟨m, hm⟩, dep, hei, wid]
  rw [Finset.sum_congr rfl (fun k _ => (hF (nbr ⟨m, hm⟩ k)))]
  simp only [nbr]
  rw [Fin.sum_univ_eq_sum_range (fun k => F (nbrNat m k)) 46,
    Fin.sum_univ_eq_sum_range (fun i => F (i * 256 + m / 16 % 16 * 16 + m % 16)) 16,
    Fin.sum_univ_eq_sum_range (fun i => F (m / 256 * 256 + i * 16 + m % 16)) 16,
    Fin.sum_univ_eq_sum_range (fun i => F (m / 256 * 256 + m / 16 % 16 * 16 + i)) 16]
  rw [sum_split (fun i => F (i * 256 + m / 16 % 16 * 16 + m % 16)) _ hd,
    sum_split (fun i => F (m / 256 * 256 + i * 16 + m % 16)) _ hh]
  generalize ed : m / 256 = d at *
  generalize eh : m / 16 % 16 = h at *
  generalize ew : m % 16 = w at *
  have e0 : d * 256 + h * 16 + w = m := by omega
  have e46 : 46 = d + (h + (16 + ((15 - h) + (15 - d)))) := by omega
  rw [e46, sum_range_add, sum_range_add, sum_range_add, sum_range_add]
  have s1 : ∑ x ∈ range d, F (nbrNat m x) = ∑ x ∈ range d, F (x * 256 + h * 16 + w) := by
    refine sum_congr rfl fun x hx => ?_
    have := mem_range.mp hx
    simp only [nbrNat, ed, eh, ew]; rw [if_pos (by omega)]
  have s2 : ∑ x ∈ range h, F (nbrNat m (d + x)) = ∑ x ∈ range h, F (d * 256 + x * 16 + w) := by
    refine sum_congr rfl fun x hx => ?_
    have := mem_range.mp hx
    simp only [nbrNat, ed, eh, ew]; rw [if_neg (by omega), if_pos (by omega)]; congr 1; omega
  have s3 : ∑ x ∈ range 16, F (nbrNat m (d + (h + x))) = ∑ x ∈ range 16, F (d * 256 + h * 16 + x) := by
    refine sum_congr rfl fun x hx => ?_
    have := mem_range.mp hx
    simp only [nbrNat, ed, eh, ew]; rw [if_neg (by omega), if_neg (by omega), if_pos (by omega)]; congr 1; omega
  have s4 : ∑ x ∈ range (15 - h), F (nbrNat m (d + (h + (16 + x))))
      = ∑ x ∈ range (15 - h), F (d * 256 + (h + 1 + x) * 16 + w) := by
    refine sum_congr rfl fun x hx => ?_
    have := mem_range.mp hx
    simp only [nbrNat, ed, eh, ew]
    rw [if_neg (by omega), if_neg (by omega), if_neg (by omega), if_pos (by omega)]; congr 1; omega
  have s5 : ∑ x ∈ range (15 - d), F (nbrNat m (d + (h + (16 + (15 - h + x)))))
      = ∑ x ∈ range (15 - d), F ((d + 1 + x) * 256 + h * 16 + w) := by
    refine sum_congr rfl fun x hx => ?_
    have := mem_range.mp hx
    simp only [nbrNat, ed, eh, ew]
    rw [if_neg (by omega), if_neg (by omega), if_neg (by omega), if_neg (by omega)]; congr 1; omega
  rw [s1, s2, s3, s4, s5, e0]
  ring

/-- Walking sixteen places round from place `d` meets each place once. -/
theorem sum_turn (g : Fin 16 → ℝ) (d : Fin 16) :
    ∑ k ∈ range 16, g ⟨(d.val + k) % 16, Nat.mod_lt _ (by omega)⟩ = ∑ i, g i := by
  rw [← Fin.sum_univ_eq_sum_range (fun k => g ⟨(d.val + k) % 16, Nat.mod_lt _ (by omega)⟩) 16]
  exact Fintype.sum_equiv (Equiv.addLeft d) _ _ (fun k => by
    congr 1)

/-! ### The attention -/

abbrev Act := Fin 2 → Fin 64 → Fin 4096 → ℝ

/-- The stacked projections: rows 0–15 the queries, 16–31 the keys. -/
def proj (W : Fin 64 → Fin 64 → ℝ) (B : Fin 64 → ℝ) (h : Act) : Act :=
  fun b c n => ∑ k, W c k * h b k n + B c

/-- The logit of voxel `n` with voxel `n'`. -/
def logit (p : Act) (b : Fin 2) (n n' : Fin 4096) : ℝ :=
  ∑ c : Fin 16, p b ⟨c.val, by omega⟩ n * p b ⟨16 + c.val, by omega⟩ n'

/-- A softmax does not see a shift of its logits. -/
theorem softmax_shift {κ : Type*} [Fintype κ] (F g : κ → ℝ) (M : ℝ) :
    (∑ k, Real.exp (F k - M) / (∑ j, Real.exp (F j - M)) * g k)
      = (∑ k, Real.exp (F k) * g k) / ∑ k, Real.exp (F k) := by
  have e : ∀ k, Real.exp (F k - M) = Real.exp (-M) * Real.exp (F k) := fun k => by
    rw [← Real.exp_add]; ring_nf
  simp only [e, ← mul_sum]
  rw [sum_div]
  refine sum_congr rfl fun k _ => ?_
  rw [mul_div_mul_left _ _ (Real.exp_pos _).ne']; ring

/-- Place `k` of the depth line, the row line and the column line of voxel `n`, walking round from `n` itself. -/
def turnD (n : Fin 4096) (k : ℕ) : Fin 4096 := ⟨(n.val + 256 * k) % 4096, Nat.mod_lt _ (by omega)⟩
def turnH (n : Fin 4096) (k : ℕ) : Fin 4096 := ⟨n.val / 256 * 256 + (n.val + 16 * k) % 256, by omega⟩
def turnW (n : Fin 4096) (k : ℕ) : Fin 4096 := ⟨n.val / 16 * 16 + (n.val + k) % 16, by omega⟩

theorem sum_turnD (f : Fin 4096 → ℝ) (n : Fin 4096) :
    ∑ k ∈ range 16, f (turnD n k) = ∑ i, f (vox i (hei n) (wid n)) := by
  rw [← sum_turn (fun i => f (vox i (hei n) (wid n))) (dep n)]
  refine sum_congr rfl fun k _ => congrArg f (Fin.ext ?_)
  simp only [turnD, vox, dep, hei, wid]; omega

theorem sum_turnH (f : Fin 4096 → ℝ) (n : Fin 4096) :
    ∑ k ∈ range 16, f (turnH n k) = ∑ i, f (vox (dep n) i (wid n)) := by
  rw [← sum_turn (fun i => f (vox (dep n) i (wid n))) (hei n)]
  refine sum_congr rfl fun k _ => congrArg f (Fin.ext ?_)
  simp only [turnH, vox, dep, hei, wid]; omega

theorem sum_turnW (f : Fin 4096 → ℝ) (n : Fin 4096) :
    ∑ k ∈ range 16, f (turnW n k) = ∑ i, f (vox (dep n) (hei n) i) := by
  rw [← sum_turn (fun i => f (vox (dep n) (hei n) i)) (wid n)]
  refine sum_congr rfl fun k _ => congrArg f (Fin.ext ?_)
  simp only [turnW, vox, dep, hei, wid]; omega

/-- A line's exponentials shifted by the line's own `M`, weighted and rescaled to `T`. -/
theorem rescale (F V : ℕ → ℝ) (M T : ℝ) :
    (∑ k ∈ range 16, Real.exp (F k - M) * V k) * Real.exp (M - T)
      = Real.exp (-T) * ∑ k ∈ range 16, Real.exp (F k) * V k := by
  rw [sum_mul, mul_sum]
  refine sum_congr rfl fun k _ => ?_
  have : Real.exp (F k - M) * Real.exp (M - T) = Real.exp (-T) * Real.exp (F k) := by
    rw [← Real.exp_add, ← Real.exp_add]; ring_nf
  calc _ = Real.exp (F k - M) * Real.exp (M - T) * V k := by ring
    _ = _ := by rw [this]; ring

/-- The three lines merged, the voxel itself taken off twice, are the sum over the neighbours, up to the shift. -/
theorem merged (F V : Fin 4096 → ℝ) (n : Fin 4096) (MD MH MW T : ℝ) :
    (∑ k ∈ range 16, Real.exp (F (turnD n k) - MD) * V (turnD n k)) * Real.exp (MD - T)
        + (∑ k ∈ range 16, Real.exp (F (turnH n k) - MH) * V (turnH n k)) * Real.exp (MH - T)
        + (∑ k ∈ range 16, Real.exp (F (turnW n k) - MW) * V (turnW n k)) * Real.exp (MW - T)
        - 2 * Real.exp (F n - T) * V n
      = Real.exp (-T) * ∑ k, Real.exp (F (nbr n k)) * V (nbr n k) := by
  rw [rescale (fun k => F (turnD n k)) (fun k => V (turnD n k)), rescale (fun k => F (turnH n k)) (fun k => V (turnH n k)),
    rescale (fun k => F (turnW n k)) (fun k => V (turnW n k)),
    sum_turnD (fun m => Real.exp (F m) * V m), sum_turnH (fun m => Real.exp (F m) * V m),
    sum_turnW (fun m => Real.exp (F m) * V m), sum_nbr (fun m => Real.exp (F m) * V m)]
  have : Real.exp (F n - T) = Real.exp (-T) * Real.exp (F n) := by
    rw [← Real.exp_add]; ring_nf
  rw [this]; ring

theorem merged_one (F : Fin 4096 → ℝ) (n : Fin 4096) (MD MH MW T : ℝ) :
    (∑ k ∈ range 16, Real.exp (F (turnD n k) - MD)) * Real.exp (MD - T)
        + (∑ k ∈ range 16, Real.exp (F (turnH n k) - MH)) * Real.exp (MH - T)
        + (∑ k ∈ range 16, Real.exp (F (turnW n k) - MW)) * Real.exp (MW - T)
        - 2 * Real.exp (F n - T)
      = Real.exp (-T) * ∑ k, Real.exp (F (nbr n k)) := by
  have := merged F (fun _ => 1) n MD MH MW T
  simpa only [mul_one] using this

theorem expsum_pos (F : Fin 4096 → ℝ) (n : Fin 4096) : 0 < ∑ k, Real.exp (F (nbr n k)) :=
  sum_pos (fun _ _ => Real.exp_pos _) univ_nonempty

/-! ### The group norm -/

/-- The channel at place `j` of group `q`. -/
def chan (q : Fin 16) (j : Fin 4) : Fin 64 := ⟨q.val * 4 + j.val, by omega⟩

def grp (ch : Fin 64) : Fin 16 := ⟨ch.val / 4, by omega⟩

def gmean (c : Act) (b : Fin 2) (q : Fin 16) : ℝ := (∑ j : Fin 4, ∑ n, c b (chan q j) n) / 16384
def gvar (c : Act) (b : Fin 2) (q : Fin 16) : ℝ :=
  (∑ j : Fin 4, ∑ n, (c b (chan q j) n - gmean c b q) * (c b (chan q j) n - gmean c b q)) / 16384

def bmean (c : Act) (ch : Fin 64) : ℝ := (∑ b, ∑ n, c b ch n) / 8192
def bvar (c : Act) (ch : Fin 64) : ℝ := (∑ b, ∑ n, (c b ch n - bmean c ch) * (c b ch n - bmean c ch)) / 8192

def bnorm (e : ℝ) (c : Act) : Act := fun b ch n => (c b ch n - bmean c ch) / Real.sqrt (bvar c ch + e)

/-- The mean of the squared deviations is the mean square less the squared mean. -/
theorem mean_sq {ι : Type*} [Fintype ι] (N : ℝ) (hN : (Fintype.card ι : ℝ) = N) (h0 : N ≠ 0) (x : ι → ℝ) :
    (∑ i, x i * x i) / N - (∑ i, x i) / N * ((∑ i, x i) / N)
      = (∑ i, (x i - (∑ i, x i) / N) * (x i - (∑ i, x i) / N)) / N := by
  set S := ∑ i, x i with hS
  have e : ∑ i, (x i - S / N) * (x i - S / N) = ∑ i, x i * x i - 2 * (S / N) * S + N * ((S / N) * (S / N)) := by
    have : ∀ i, (x i - S / N) * (x i - S / N) = x i * x i - 2 * (S / N) * x i + (S / N) * (S / N) := fun i => by ring
    simp only [this, sum_add_distrib, sum_sub_distrib, ← mul_sum, sum_const, card_univ, nsmul_eq_mul, hN, ← hS]
    ring
  rw [e]; field_simp; ring

theorem gvar_eq (c : Act) (b : Fin 2) (q : Fin 16) :
    (∑ j : Fin 4, ∑ n, c b (chan q j) n * c b (chan q j) n) / 16384 - gmean c b q * gmean c b q = gvar c b q := by
  have := mean_sq (ι := Fin 4 × Fin 4096) 16384 (by norm_num) (by norm_num) (fun p => c b (chan q p.1) p.2)
  simp only [Fintype.sum_prod_type] at this
  exact this

theorem bvar_eq (c : Act) (ch : Fin 64) :
    (∑ b, ∑ n, c b ch n * c b ch n) / 8192 - bmean c ch * bmean c ch = bvar c ch := by
  have := mean_sq (ι := Fin 2 × Fin 4096) 8192 (by norm_num) (by norm_num) (fun p => c p.1 ch p.2)
  simp only [Fintype.sum_prod_type] at this
  exact this

theorem gvar_nonneg (c : Act) (b : Fin 2) (q : Fin 16) : 0 ≤ gvar c b q :=
  div_nonneg (sum_nonneg fun _ _ => sum_nonneg fun _ _ => mul_self_nonneg _) (by norm_num)

theorem bvar_nonneg (c : Act) (ch : Fin 64) : 0 ≤ bvar c ch :=
  div_nonneg (sum_nonneg fun _ _ => sum_nonneg fun _ _ => mul_self_nonneg _) (by norm_num)

end Cert.Model
-- ==== Proof.Pre.lean ====
/-
  What the precondition says: the table handed over is the lattice's own table of neighbours, and every number that
  the logits of the two steps are made of is finite, that is, a real number.
-/
module
public import proofs.«01_k».proof.Pre_lattice_and_finite
public import proofs.«01_k».proof.Proof.Model
public import Idealize.ShloMosaic.PureOps.Reduce
public import Idealize.ShloMosaic.Lib.WordCmp
public import Idealize.ShloMosaic.Lib.Pointwise

@[expose] public section

set_option maxRecDepth 16384

noncomputable section

namespace Cert.Pre_lattice_and_finite

open Idealize.ShloMosaic Cert.Model

/-- The shape facts the precondition states. -/
theorem facts : Facts where
  bcast_S_S4096x46 := by decide
  reducesTo_S4096x46_S_d0_1 := by decide
  h_S_ := by decide
  bcast_S_S2x64x16x16x16 := by decide
  reducesTo_S2x64x16x16x16_S_d0_1_2_3_4 := by decide
  slices_S2x64_S1x64_0_0 := by decide
  shapeCasts_S1x64_S64 := by decide
  bcast_S_S16x64 := by decide
  reducesTo_S16x64_S_d0_1 := by decide
  bcast_S_S16 := by decide
  reducesTo_S16_S_d0 := by decide
  bcast_S_S64 := by decide
  reducesTo_S64_S_d0 := by decide

variable [Facts]

/-! ### A conjunction over a whole array -/

/-- A fold by `and` that is one has every word one. -/
theorem fold_and {ι : Type} [DecidableEq ι] (s : Finset ι) (x : ι → BitVec 1) (v : BitVec 1) :
    s.fold IntOp.andi v x = 1#1 → ∀ i ∈ s, x i = 1#1 := by
  induction s using Finset.induction_on with
  | empty => exact fun _ i hi => absurd hi (Finset.notMem_empty i)
  | insert a s ha ih =>
    rw [Finset.fold_insert ha]
    intro h i hi
    have two : ∀ p q : BitVec 1, IntOp.andi p q = 1#1 → p = 1#1 ∧ q = 1#1 := by decide
    obtain ⟨h1, h2⟩ := two _ _ h
    rcases Finset.mem_insert.mp hi with rfl | hi
    · exact h1
    · exact ih h2 i hi

instance : Subsingleton S_.Idx := ⟨fun _ _ => funext fun a => a.elim0⟩

/-- A whole array's conjunction that is one has every entry one. -/
theorem all_of_reduce {s : Shape} {axes : List (Fin s.rank)} (x : IVec s 1) (v : IVec S_ 1) (h : s.ReducesTo axes S_)
    (hu : 0 < S_.numel) (j : S_.Idx) (e : Host.reduce IntOp.andi x v h hu j = 1#1) (i : s.Idx) : x i = 1#1 := by
  classical
  rw [Host.reduce_eq_fold] at e
  exact fold_and _ _ _ e i (Finset.mem_filter.mpr ⟨Finset.mem_univ _, Subsingleton.elim _ _⟩)

/-- A number below infinity in size is real. -/
theorem real_of_small {s : Shape} (h : S_.BroadcastsInDim s (![] : Fin 0 → Fin s.rank)) (a : FVec Ideal s .f32) (i : s.Idx)
    (e : cmpf .olt (Host.absf a) (broadcastInDim s ![] h (constant S_ .f32 0x7F800000#32)) i = 1#1) :
    ∃ r : ℝ, a i = ((r : EReal) : Ideal .f32) := by
  pointwise at e
  have e' : FloatOps.absf (a i) < Ideal.ofBits FTy.f32 2139095040#32 := by
    by_contra hne
    rw [decide_eq_false hne] at e
    exact absurd e (by decide)
  have top : Ideal.ofBits FTy.f32 2139095040#32 = ⊤ := by simp [Ideal.ofBits, Ideal.ieee]
  rw [top] at e'
  have f : max (a i) (-(a i) : EReal) < ⊤ := e'
  have h1 : (a i : EReal) ≠ ⊤ := (lt_of_le_of_lt (le_max_left _ _) f).ne
  have h2 : (a i : EReal) ≠ ⊥ := fun hb => by
    have h3 : (-(a i) : EReal) < ⊤ := lt_of_le_of_lt (le_max_right _ _) f
    rw [hb, EReal.neg_bot] at h3
    exact lt_irrefl _ h3
  exact ⟨EReal.toReal (a i), (EReal.coe_toReal h1 h2).symm⟩

/-! ### The table -/

/-- A voxel's depth, row and column as words. -/
theorem words : ∀ n : Fin 4096,
    IntOp.shrsi ArithUnit.host (BitVec.ofNat 32 n.val) 8#32 = BitVec.ofNat 32 (n.val / 256)
    ∧ IntOp.andi (IntOp.shrsi ArithUnit.host (BitVec.ofNat 32 n.val) 4#32) 15#32 = BitVec.ofNat 32 (n.val / 16 % 16)
    ∧ IntOp.andi (BitVec.ofNat 32 n.val) 15#32 = BitVec.ofNat 32 (n.val % 16) := by
  decide +kernel

theorem two (p q : BitVec 1) : IntOp.andi p q = 1#1 → p = 1#1 ∧ q = 1#1 := by revert p q; decide

theorem shl8 (x : BitVec 32) : IntOp.shli ArithUnit.host x 8#32 = x * 256#32 := by
  show (if (8#32 : BitVec 32).toNat < 32 then x <<< (8#32 : BitVec 32) else _) = _
  rw [if_pos (by decide)]
  apply BitVec.eq_of_toNat_eq
  simp [BitVec.toNat_shiftLeft, BitVec.toNat_mul, Nat.shiftLeft_eq]

theorem shl4 (x : BitVec 32) : IntOp.shli ArithUnit.host x 4#32 = x * 16#32 := by
  show (if (4#32 : BitVec 32).toNat < 32 then x <<< (4#32 : BitVec 32) else _) = _
  rw [if_pos (by decide)]
  apply BitVec.eq_of_toNat_eq
  simp [BitVec.toNat_shiftLeft, BitVec.toNat_mul, Nat.shiftLeft_eq]

theorem sub_word (a b : ℕ) (h : b ≤ a) :
    BitVec.ofNat 32 a - BitVec.ofNat 32 b = BitVec.ofNat 32 (a - b) := by
  have e : a = (a - b) + b := by omega
  conv_lhs => rw [e, BitVec.ofNat_add]
  rw [BitVec.add_sub_cancel]

/-- Two branches of a choice agree when each does where it is taken. -/
theorem pick (a b : ℕ) (ha : a < 2 ^ 31) (hb : b < 2 ^ 31) (x y : BitVec 32) (u v : ℕ)
    (hx : a < b → x = BitVec.ofNat 32 u) (hy : ¬ a < b → y = BitVec.ofNat 32 v) :
    Scalar.select (IntOp.cmpi .slt (BitVec.ofNat 32 a) (BitVec.ofNat 32 b)) x y = BitVec.ofNat 32 (if a < b then u else v) := by
  rw [WordCmp.cmpi_slt_ofNat ha hb, WordCmp.select_ofBool]
  by_cases h : a < b
  · rw [if_pos h, if_pos (by simpa using h)]; exact hx h
  · rw [if_neg h, if_neg (by simpa using h)]; exact hy h

/-- The precondition's five-way choice, in words, is the five-way choice in numbers. -/
theorem table (d h w k : ℕ) (hd : d < 16) (hh : h < 16) (hk : k < 46) :
    Scalar.select (IntOp.cmpi .slt (BitVec.ofNat 32 k) (BitVec.ofNat 32 d))
      (IntOp.addi (IntOp.addi (IntOp.shli ArithUnit.host (BitVec.ofNat 32 k) 8#32) (IntOp.shli ArithUnit.host (BitVec.ofNat 32 h) 4#32)) (BitVec.ofNat 32 w))
      (Scalar.select (IntOp.cmpi .slt (BitVec.ofNat 32 k) (IntOp.addi (BitVec.ofNat 32 d) (BitVec.ofNat 32 h)))
        (IntOp.addi (IntOp.addi (IntOp.shli ArithUnit.host (BitVec.ofNat 32 d) 8#32) (IntOp.shli ArithUnit.host (IntOp.subi (BitVec.ofNat 32 k) (BitVec.ofNat 32 d)) 4#32)) (BitVec.ofNat 32 w))
        (Scalar.select (IntOp.cmpi .slt (BitVec.ofNat 32 k) (IntOp.addi (IntOp.addi (BitVec.ofNat 32 d) (BitVec.ofNat 32 h)) 16#32))
          (IntOp.addi (IntOp.addi (IntOp.shli ArithUnit.host (BitVec.ofNat 32 d) 8#32) (IntOp.shli ArithUnit.host (BitVec.ofNat 32 h) 4#32)) (IntOp.subi (IntOp.subi (BitVec.ofNat 32 k) (BitVec.ofNat 32 d)) (BitVec.ofNat 32 h)))
          (Scalar.select (IntOp.cmpi .slt (BitVec.ofNat 32 k) (IntOp.addi (BitVec.ofNat 32 d) 31#32))
            (IntOp.addi (IntOp.addi (IntOp.shli ArithUnit.host (BitVec.ofNat 32 d) 8#32) (IntOp.shli ArithUnit.host (IntOp.subi (IntOp.subi (BitVec.ofNat 32 k) (BitVec.ofNat 32 d)) 15#32) 4#32)) (BitVec.ofNat 32 w))
            (IntOp.addi (IntOp.addi (IntOp.shli ArithUnit.host (IntOp.subi (BitVec.ofNat 32 k) 30#32) 8#32) (IntOp.shli ArithUnit.host (BitVec.ofNat 32 h) 4#32)) (BitVec.ofNat 32 w)))))
    = BitVec.ofNat 32 (if k < d then k * 256 + h * 16 + w
        else if k < d + h then d * 256 + (k - d) * 16 + w
        else if k < d + h + 16 then d * 256 + h * 16 + (k - d - h)
        else if k < d + 31 then d * 256 + (k - d - 15) * 16 + w
        else (k - 30) * 256 + h * 16 + w) := by
  have add : ∀ a b, IntOp.addi (BitVec.ofNat 32 a) (BitVec.ofNat 32 b) = BitVec.ofNat 32 (a + b) := fun a b => (BitVec.ofNat_add ..).symm
  have m8 : ∀ a, IntOp.shli ArithUnit.host (BitVec.ofNat 32 a) 8#32 = BitVec.ofNat 32 (a * 256) := fun a => by rw [shl8, BitVec.ofNat_mul]
  have m4 : ∀ a, IntOp.shli ArithUnit.host (BitVec.ofNat 32 a) 4#32 = BitVec.ofNat 32 (a * 16) := fun a => by rw [shl4, BitVec.ofNat_mul]
  have sub : ∀ a b, b ≤ a → IntOp.subi (BitVec.ofNat 32 a) (BitVec.ofNat 32 b) = BitVec.ofNat 32 (a - b) := sub_word
  refine pick _ _ (by omega) (by omega) _ _ _ _ (fun _ => by rw [m8, m4, add, add]) fun h1 => ?_
  rw [add]
  refine pick _ _ (by omega) (by omega) _ _ _ _ (fun _ => by rw [sub _ _ (by omega), m8, m4, add, add]) fun h2 => ?_
  rw [add]
  refine pick _ _ (by omega) (by omega) _ _ _ _ (fun _ => by rw [sub _ _ (by omega), sub _ _ (by omega), m8, m4, add, add]) fun h3 => ?_
  rw [add]
  refine pick _ _ (by omega) (by omega) _ _ _ _ (fun _ => by rw [sub _ _ (by omega), sub _ _ (by omega), m8, m4, add, add]) fun h4 => ?_
  rw [sub _ _ (by omega), m8, m4, add, add]

theorem first_row (g : FVec Ideal S2x64 .f32) (c : Fin 64) :
    shapeCast S64 (extractStridedSlice S1x64 ![0, 0] g Facts.slices_S2x64_S1x64_0_0) Facts.shapeCasts_S1x64_S64 (ix1 c) = g (ix2 0 c) := by
  pointwise

/-- The precondition, taken apart. -/
theorem decode (a0 : FVec Ideal S2x64x16x16x16 .f32) (a1 : FVec Ideal S32x64 .f32) (a2 : FVec Ideal S32 .f32)
    (a3 : FVec Ideal S16x64 .f32) (a4 : FVec Ideal S16 .f32) (a5 : FVec Ideal S16x64 .f32) (a6 : FVec Ideal S16 .f32)
    (a7 : FVec Ideal S64x32 .f32) (a8 : FVec Ideal S64 .f32) (a9 a10 : FVec Ideal S2x64 .f32) (a11 a12 : FVec Ideal S64 .f32)
    (a13 : IVec S4096x46 32) (i0 : S_.Idx)
    (e : fn a0 a1 a2 a3 a4 a5 a6 a7 a8 a9 a10 a11 a12 a13 i0 = 1#1) :
    (∀ n k, a13 (ix2 n k) = BitVec.ofNat 32 (nbr n k).val)
    ∧ (∀ i, ∃ r : ℝ, a0 i = ((r : EReal) : Ideal .f32)) ∧ (∀ i, ∃ r : ℝ, a3 i = ((r : EReal) : Ideal .f32))
    ∧ (∀ i, ∃ r : ℝ, a4 i = ((r : EReal) : Ideal .f32)) ∧ (∀ i, ∃ r : ℝ, a5 i = ((r : EReal) : Ideal .f32))
    ∧ (∀ i, ∃ r : ℝ, a6 i = ((r : EReal) : Ideal .f32)) ∧ (∀ c, ∃ r : ℝ, a9 (ix2 0 c) = ((r : EReal) : Ideal .f32))
    ∧ (∀ c, ∃ r : ℝ, a10 (ix2 0 c) = ((r : EReal) : Ideal .f32)) := by
  unfold fn fn_part1 fn_part2 fn_part3 fn_part4 fn_part5 at e
  dsimp only at e
  obtain ⟨e, e10⟩ := two _ _ e
  obtain ⟨e, e9⟩ := two _ _ e
  obtain ⟨e, e6⟩ := two _ _ e
  obtain ⟨e, e5⟩ := two _ _ e
  obtain ⟨e, e4⟩ := two _ _ e
  obtain ⟨e, e3⟩ := two _ _ e
  obtain ⟨e, e0⟩ := two _ _ e
  refine ⟨fun n k => ?_,
    fun i => real_of_small _ a0 i (all_of_reduce _ _ _ _ _ e0 i), fun i => real_of_small _ a3 i (all_of_reduce _ _ _ _ _ e3 i),
    fun i => real_of_small _ a4 i (all_of_reduce _ _ _ _ _ e4 i), fun i => real_of_small _ a5 i (all_of_reduce _ _ _ _ _ e5 i),
    fun i => real_of_small _ a6 i (all_of_reduce _ _ _ _ _ e6 i), fun c => ?_, fun c => ?_⟩
  rotate_left
  · rw [← first_row a9 c]; exact real_of_small _ _ (ix1 c) (all_of_reduce _ _ _ _ _ e9 _)
  · rw [← first_row a10 c]; exact real_of_small _ _ (ix1 c) (all_of_reduce _ _ _ _ _ e10 _)
  have t := all_of_reduce _ _ _ _ _ e (ix2 n k)
  clear e e0 e3 e4 e5 e6 e9 e10
  pointwise [fn_where] at t
  rw [(words n).1, (words n).2.1, (words n).2.2, table _ _ _ _ (by omega) (by omega) k.isLt] at t
  have eq : ∀ x y : BitVec 32, IntOp.cmpi .eq x y = 1#1 → x = y := fun x y h => by
    by_contra hne
    rw [show IntOp.cmpi .eq x y = BitVec.ofBool (x == y) from rfl, beq_eq_false_iff_ne.mpr hne] at h
    exact absurd h (by decide)
  exact eq _ _ t

end Cert.Pre_lattice_and_finite
-- ==== Proof.Vec.lean ====
/-
  The kernel's arithmetic as a handful of array functions: the projection, the line attention along each of the
  three lattice axes (its running maximum, its exponentials, its denominators and its weighted sums), the merging of the
  three lines, the output projection, the group normalization and the batch normalization. Every function is generic in
  the float meaning; the chains over the sixteen places of a line are one recursion (`chain`) over one iteration (`iter`).
-/
module

public import proofs.«01_k».proof.Proof.Gen.KernelIdeal.Skeleton

@[expose] public section

noncomputable section

open Idealize.ShloMosaic

namespace Cert.KernelIdeal.Vec

open Cert.KernelIdeal Cert.KernelIdeal.Gen

/-- `r` applied `k` times to `x`. -/
def iter {α : Type} (r : α → α) (x : α) (k : ℕ) : α := Nat.rec x (fun _ y => r y) k

/-- `f 0`, then `f 1`, …, then `f k`, joined by `op` from the left. -/
def chain {α : Type} (op : α → α → α) (f : ℕ → α) (k : ℕ) : α := Nat.rec (f 0) (fun n acc => op acc (f (n + 1))) k

variable {F : FTy → Type} [FloatOps F]

/-- Batch 0's [64, 4096] block of an activation. -/
def batch0 (x : FVec F S2x64x4096 .f32) : FVec F S64x4096 .f32 :=
  shapeCast S64x4096 (extractStridedSlice S1x64x4096 ![0, 0, 0] x slices_S2x64x4096_o0_0_0_S1x64x4096) shapeCasts_S1x64x4096_S64x4096

/-- Batch 1's. -/
def batch1 (x : FVec F S2x64x4096 .f32) : FVec F S64x4096 .f32 :=
  shapeCast S64x4096 (extractStridedSlice S1x64x4096 ![1, 0, 0] x slices_S2x64x4096_o1_0_0_S1x64x4096) shapeCasts_S1x64x4096_S64x4096

/-- Two [64, 4096] blocks stacked as the two batches. -/
def stack (a b : FVec F S64x4096 .f32) : FVec F S2x64x4096 .f32 :=
  concatenate S2x64x4096 0 [⟨S1x64x4096, shapeCast S1x64x4096 a shapeCasts_S64x4096_S1x64x4096⟩,
    ⟨S1x64x4096, shapeCast S1x64x4096 b shapeCasts_S64x4096_S1x64x4096⟩] concatenates_S1x64x4096_S1x64x4096_S2x64x4096_d0

/-- A [64, 1] column spread over both batches and every voxel. -/
def spread (b : FVec F S64x1 .f32) : FVec F S2x64x4096 .f32 :=
  broadcastTo S2x64x4096 (shapeCast S1x64x1 b shapeCasts_S64x1_S1x64x1) broadcasts_S1x64x1_S2x64x4096

/-- The fused projection: theta, phi and g, stacked along the channels. -/
def projV (x : FVec F S2x64x4096 .f32) (w : FVec F S64x64 .f32) (b : FVec F S64x1 .f32) : FVec F S2x64x4096 .f32 :=
  addf (stack (matmul dot_S64x64_S64x4096_S64x4096_1_0_0_1_n_n none w (batch0 x) (constant S64x4096 .f32 0x00000000#32))
    (matmul dot_S64x64_S64x4096_S64x4096_1_0_0_1_n_n none w (batch1 x) (constant S64x4096 .f32 0x00000000#32))) (spread b)

/-- theta, phi and g of the projection, on the flat lattice. -/
def thetaF (p : FVec F S2x64x4096 .f32) : FVec F S2x16x4096 .f32 := extractStridedSlice S2x16x4096 ![0, 0, 0] p slices_S2x64x4096_o0_0_0_S2x16x4096
def phiF (p : FVec F S2x64x4096 .f32) : FVec F S2x16x4096 .f32 := extractStridedSlice S2x16x4096 ![0, 16, 0] p slices_S2x64x4096_o0_16_0_S2x16x4096
def gF (p : FVec F S2x64x4096 .f32) : FVec F S2x32x4096 .f32 := extractStridedSlice S2x32x4096 ![0, 32, 0] p slices_S2x64x4096_o0_32_0_S2x32x4096

/-- The same, with the lattice as [depth, height * width]. -/
def thetaG (p : FVec F S2x64x4096 .f32) : FVec F S2x16x16x256 .f32 := shapeCast S2x16x16x256 (thetaF p) shapeCasts_S2x16x4096_S2x16x16x256
def phiG (p : FVec F S2x64x4096 .f32) : FVec F S2x16x16x256 .f32 := shapeCast S2x16x16x256 (phiF p) shapeCasts_S2x16x4096_S2x16x16x256
def gG (p : FVec F S2x64x4096 .f32) : FVec F S2x32x16x256 .f32 := shapeCast S2x32x16x256 (gF p) shapeCasts_S2x32x4096_S2x32x16x256

/-- The inner product over the sixteen channels. -/
def dotF (a b : FVec F S2x16x4096 .f32) : FVec F S2x1x4096 .f32 :=
  shapeCast S2x1x4096 (multiReduction .add [1] S2x4096 (mulf a b) 0x00000000#32 reduces_S2x16x4096_S2x4096 (.inl rfl) rfl) shapeCasts_S2x4096_S2x1x4096
def dotG (a b : FVec F S2x16x16x256 .f32) : FVec F S2x16x256 .f32 :=
  multiReduction .add [1] S2x16x256 (mulf a b) 0x00000000#32 reduces_S2x16x16x256_S2x16x256 (.inl rfl) rfl

/-! ## A line's maximum, exponentials, denominator and weighted sum, given its logits and values place by place -/

variable {s : Shape}

/-- The largest logit. -/
def lineM (f : ℕ → FVec F s .f32) : FVec F s .f32 := chain maximumf f 15
/-- The exponential of the `k`-th shifted logit. -/
def lineE (f : ℕ → FVec F s .f32) (k : ℕ) : FVec F s .f32 := exp (subf (f k) (lineM f))
/-- The denominator. -/
def lineZ (f : ℕ → FVec F s .f32) : FVec F s .f32 := chain addf (lineE f) 15

/-- A denominator-shaped array spread over the 32 value channels. -/
def wideF (e : FVec F S2x1x4096 .f32) : FVec F S2x32x4096 .f32 := broadcastTo S2x32x4096 e broadcasts_S2x1x4096_S2x32x4096
def wideG (e : FVec F S2x16x256 .f32) : FVec F S2x32x16x256 .f32 :=
  broadcastTo S2x32x16x256 (shapeCast S2x1x16x256 e shapeCasts_S2x16x256_S2x1x16x256) broadcasts_S2x1x16x256_S2x32x16x256

/-- The weighted sums. -/
def sumF (e : ℕ → FVec F S2x1x4096 .f32) (v : ℕ → FVec F S2x32x4096 .f32) : FVec F S2x32x4096 .f32 := chain addf (fun k => mulf (wideF (e k)) (v k)) 15
def sumG (e : ℕ → FVec F S2x16x256 .f32) (v : ℕ → FVec F S2x32x16x256 .f32) : FVec F S2x32x16x256 .f32 := chain addf (fun k => mulf (wideG (e k)) (v k)) 15

/-! ## The three axes' shifts -/

/-- One step along the depth axis: the flat lattice rolled by one plane. -/
def rollD16 (x : FVec F S2x16x4096 .f32) : FVec F S2x16x4096 .f32 := dynamicRotate 2 3840#32 none x rotates_S2x16x4096_d2
def rollD32 (x : FVec F S2x32x4096 .f32) : FVec F S2x32x4096 .f32 := dynamicRotate 2 3840#32 none x rotates_S2x32x4096_d2
/-- One step along the height axis: each plane rolled by one row. -/
def rollH16 (x : FVec F S2x16x16x256 .f32) : FVec F S2x16x16x256 .f32 := dynamicRotate 3 240#32 none x rotates_S2x16x16x256_d3
def rollH32 (x : FVec F S2x32x16x256 .f32) : FVec F S2x32x16x256 .f32 := dynamicRotate 3 240#32 none x rotates_S2x32x16x256_d3
/-- One step along the width axis on the plane, rows not yet mended. -/
def rollW16 (x : FVec F S2x16x16x256 .f32) : FVec F S2x16x16x256 .f32 := dynamicRotate 3 255#32 none x rotates_S2x16x16x256_d3
def rollW32 (x : FVec F S2x32x16x256 .f32) : FVec F S2x32x16x256 .f32 := dynamicRotate 3 255#32 none x rotates_S2x32x16x256_d3

/-- The places whose row is intact after `k` steps along the width. -/
def intact (k : ℕ) : IVec S1x1x16x256 1 :=
  shapeCast S1x1x16x256 (cmpi .slt k0_pay5 (broadcast S1x1x16x256 (BitVec.ofNat 32 (16 - k)))) shapeCasts_S1x1x16x256_S1x1x16x256

/-- `k` steps along the width: the rolled plane where the row is intact, the plane rolled back by a row elsewhere. -/
def shiftW16 (x : FVec F S2x16x16x256 .f32) (k : ℕ) : FVec F S2x16x16x256 .f32 :=
  Nat.rec x (fun n _ => select (broadcastTo S2x16x16x256 (intact (n + 1)) broadcasts_S1x1x16x256_S2x16x16x256) (iter rollW16 x (n + 1))
    (dynamicRotate 3 16#32 none (iter rollW16 x (n + 1)) rotates_S2x16x16x256_d3)) k
def shiftW32 (x : FVec F S2x32x16x256 .f32) (k : ℕ) : FVec F S2x32x16x256 .f32 :=
  Nat.rec x (fun n _ => select (broadcastTo S2x32x16x256 (intact (n + 1)) broadcasts_S1x1x16x256_S2x32x16x256) (iter rollW32 x (n + 1))
    (dynamicRotate 3 16#32 none (iter rollW32 x (n + 1)) rotates_S2x32x16x256_d3)) k

/-- The logits along each axis. -/
def fD (p : FVec F S2x64x4096 .f32) (k : ℕ) : FVec F S2x1x4096 .f32 := dotF (thetaF p) (iter rollD16 (phiF p) k)
def fH (p : FVec F S2x64x4096 .f32) (k : ℕ) : FVec F S2x16x256 .f32 := dotG (thetaG p) (iter rollH16 (phiG p) k)
def fW (p : FVec F S2x64x4096 .f32) (k : ℕ) : FVec F S2x16x256 .f32 := dotG (thetaG p) (shiftW16 (phiG p) k)

/-! ## The three lines merged -/

/-- The merged maximum. -/
def topM (mD mH mW : FVec F S2x16x256 .f32) : FVec F S2x16x256 .f32 := maximumf (maximumf mD mH) mW

/-- The three lines' merged attention, the voxel itself counted once. -/
def merge (mD mH mW zD zH zW fs : FVec F S2x16x256 .f32) (sD sH sW g : FVec F S2x32x16x256 .f32) : FVec F S2x32x16x256 .f32 :=
  divf
    (subf (addf (addf (mulf sD (wideG (exp (subf mD (topM mD mH mW))))) (mulf sH (wideG (exp (subf mH (topM mD mH mW))))))
        (mulf sW (wideG (exp (subf mW (topM mD mH mW))))))
      (mulf (broadcastTo S2x32x16x256 (mulf (broadcast S2x1x16x256 (Scalar.ofBits .f32 0x40000000#32))
        (shapeCast S2x1x16x256 (exp (subf fs (topM mD mH mW))) shapeCasts_S2x16x256_S2x1x16x256)) broadcasts_S2x1x16x256_S2x32x16x256) g))
    (wideG (subf (addf (addf (mulf zD (exp (subf mD (topM mD mH mW)))) (mulf zH (exp (subf mH (topM mD mH mW)))))
        (mulf zW (exp (subf mW (topM mD mH mW)))))
      (mulf (broadcast S2x16x256 (Scalar.ofBits .f32 0x40000000#32)) (exp (subf fs (topM mD mH mW))))))

/-- The attention of one step, from its projection. -/
def attnV (p : FVec F S2x64x4096 .f32) : FVec F S2x32x16x256 .f32 :=
  merge (shapeCast S2x16x256 (lineM (fD p)) shapeCasts_S2x1x4096_S2x16x256) (lineM (fH p)) (lineM (fW p))
    (shapeCast S2x16x256 (lineZ (fD p)) shapeCasts_S2x1x4096_S2x16x256) (lineZ (fH p)) (lineZ (fW p))
    (dotG (thetaG p) (phiG p))
    (shapeCast S2x32x16x256 (sumF (lineE (fD p)) (iter rollD32 (gF p))) shapeCasts_S2x32x4096_S2x32x16x256)
    (sumG (lineE (fH p)) (iter rollH32 (gG p))) (sumG (lineE (fW p)) (shiftW32 (gG p))) (gG p)

/-- The attention on the flat lattice, one batch's block, and the output projection. -/
def attn0 (y : FVec F S2x32x4096 .f32) : FVec F S32x4096 .f32 :=
  shapeCast S32x4096 (extractStridedSlice S1x32x4096 ![0, 0, 0] y slices_S2x32x4096_o0_0_0_S1x32x4096) shapeCasts_S1x32x4096_S32x4096
def attn1 (y : FVec F S2x32x4096 .f32) : FVec F S32x4096 .f32 :=
  shapeCast S32x4096 (extractStridedSlice S1x32x4096 ![1, 0, 0] y slices_S2x32x4096_o1_0_0_S1x32x4096) shapeCasts_S1x32x4096_S32x4096
def crossV (y : FVec F S2x32x4096 .f32) (wr : FVec F S64x32 .f32) (br : FVec F S64x1 .f32) : FVec F S2x64x4096 .f32 :=
  addf (stack (matmul dot_S64x32_S32x4096_S64x4096_1_0_0_1_n_n none wr (attn0 y) (constant S64x4096 .f32 0x00000000#32))
    (matmul dot_S64x32_S32x4096_S64x4096_1_0_0_1_n_n none wr (attn1 y) (constant S64x4096 .f32 0x00000000#32))) (spread br)

/-- A group's mean of an array. -/
def meanG (c : FVec F S2x16x4x4096 .f32) : FVec F S2x16x1x1 .f32 :=
  divf (shapeCast S2x16x1x1 (multiReduction .add [2, 3] S2x16 c 0x00000000#32 reduces_S2x16x4x4096_S2x16 (.inl rfl) rfl) shapeCasts_S2x16_S2x16x1x1)
    (broadcast S2x16x1x1 (Scalar.ofBits .f32 0x46800000#32))

/-- The group normalization, before its scale and shift. -/
def groupV (c : FVec F S2x16x4x4096 .f32) : FVec F S2x16x4x4096 .f32 :=
  divf (subf c (broadcastTo S2x16x4x4096 (meanG c) broadcasts_S2x16x1x1_S2x16x4x4096))
    (broadcastTo S2x16x4x4096 (sqrt (addf (subf (meanG (mulf c c)) (mulf (meanG c) (meanG c)))
      (broadcast S2x16x1x1 (Scalar.ofBits .f32 0x3727C5AC#32)))) broadcasts_S2x16x1x1_S2x16x4x4096)

/-- One step: the activation plus the normalized attention, scaled and shifted. -/
def stepV (w : FVec F S64x64 .f32) (b : FVec F S64x1 .f32) (wr : FVec F S64x32 .f32) (br : FVec F S64x1 .f32) (ga be : FVec F S64x1 .f32)
    (h : FVec F S2x64x4096 .f32) : FVec F S2x64x4096 .f32 :=
  addf (addf h (mulf (shapeCast S2x64x4096 (groupV (shapeCast S2x16x4x4096
      (crossV (shapeCast S2x32x4096 (attnV (projV h w b)) shapeCasts_S2x32x16x256_S2x32x4096) wr br) shapeCasts_S2x64x4096_S2x16x4x4096))
      shapeCasts_S2x16x4x4096_S2x64x4096) (spread ga))) (spread be)

/-- A channel's mean over both batches and every voxel. -/
def meanB (h : FVec F S2x64x4096 .f32) : FVec F S1x64x1 .f32 :=
  divf (shapeCast S1x64x1 (multiReduction .add [0, 2] S64 h 0x00000000#32 reduces_S2x64x4096_S64 (.inl rfl) rfl) shapeCasts_S64_S1x64x1)
    (broadcast S1x64x1 (Scalar.ofBits .f32 0x46000000#32))

/-- The batch normalization and the final maximum with zero. -/
def finishV (ga be : FVec F S64x1 .f32) (h : FVec F S2x64x4096 .f32) : FVec F S2x64x4096 .f32 :=
  maximumf (addf (mulf (divf (subf h (broadcastTo S2x64x4096 (meanB h) broadcasts_S1x64x1_S2x64x4096))
    (broadcastTo S2x64x4096 (sqrt (addf (subf (meanB (mulf h h)) (mulf (meanB h) (meanB h)))
      (broadcast S1x64x1 (Scalar.ofBits .f32 0x3727C5AC#32)))) broadcasts_S1x64x1_S2x64x4096)) (spread ga)) (spread be))
    (broadcast S2x64x4096 (Scalar.ofBits .f32 0x00000000#32))

end Cert.KernelIdeal.Vec
-- ==== Proof.Reals.lean ====
/-
  The ideal operations on real numbers, the float constants of the two programs as real numbers, and the sum over the
  batches and the voxels of a channel.
-/
module
public import proofs.«01_k».proof.Proof.Model

@[expose] public section

set_option maxRecDepth 16384

noncomputable section

open Idealize.ShloMosaic

namespace Cert.Reals

theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem coe_max (a b : ℝ) : max (a : EReal) (b : EReal) = ((max a b : ℝ) : EReal) :=
  (EReal.coe_strictMono.monotone.map_max).symm

theorem div_real (a b : ℝ) (hb : b ≠ 0) : Ideal.div (a : EReal) (b : EReal) = ((a / b : ℝ) : EReal) := by
  rw [Ideal.div_coe hb, ← EReal.coe_mul]; congr 1; ring

theorem sqrt_real (a : ℝ) (ha : 0 ≤ a) : Ideal.sqrt (a : EReal) = ((Real.sqrt a : ℝ) : EReal) := by
  rw [Ideal.sqrt_coe, if_neg (not_lt.mpr ha)]

/-- The small number both normalizations add under the root. -/
def eps : ℝ := 10995116 * (2 : ℝ) ^ (-40 : ℤ)

theorem eps_pos : 0 < eps := by unfold eps; positivity

theorem ofBits_eps : Ideal.ofBits .f32 0x3727C5AC#32 = ((eps : ℝ) : EReal) := by
  simp [Ideal.ofBits, Ideal.ieee, eps, -EReal.coe_mul]; try norm_num

theorem ofBits_16384 : Ideal.ofBits .f32 0x46800000#32 = ((16384 : ℝ) : EReal) := by
  simp [Ideal.ofBits, Ideal.ieee, -EReal.coe_mul]; norm_num

theorem ofBits_8192 : Ideal.ofBits .f32 0x46000000#32 = ((8192 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; try norm_num

theorem ofBits_zero : Ideal.ofBits .f32 0x00000000#32 = 0 := Ideal.ofBits_zero_f32

theorem sqrt_ne (v : ℝ) (hv : 0 ≤ v) : Real.sqrt (v + eps) ≠ 0 :=
  (Real.sqrt_pos.mpr (add_pos_of_nonneg_of_pos hv eps_pos)).ne'

/-- A channel's sum over the batches and the voxels. -/
theorem sum_batch (h : (⟨3, ![2, 64, 4096]⟩ : Shape).Reduces [0, 2] ⟨1, ![64]⟩) (v : (⟨3, ![2, 64, 4096]⟩ : Shape).Idx → EReal)
    (c : Fin 64) : Ideal.reduceAdd h v (ix1 c) = ∑ b : Fin 2, ∑ n : Fin 4096, v (ix3 b c n) := by
  refine (Finset.sum_filter_eq_sum_of_fiber _ (fun k : Fin 2 × Fin 4096 => ix3 k.1 c k.2)
    (fun _ _ e => Prod.ext (congrFun e 0) (congrFun e 2)) ?_ v).trans ?_
  · intro i
    constructor
    · intro e
      refine ⟨(i 0, i 2), ?_⟩
      funext a; apply Fin.ext
      match a with
      | ⟨0, _⟩ => rfl
      | ⟨1, _⟩ => exact (congrArg Fin.val (congrFun e ⟨0, by decide⟩)).symm
      | ⟨2, _⟩ => rfl
    · rintro ⟨k, rfl⟩
      funext b
      apply Fin.ext
      match b with
      | ⟨0, _⟩ => rfl
  · simp only [Fintype.sum_prod_type]

/-- The same on the lattice kept as three axes. -/
theorem sum_batch5 (h : (⟨5, ![2, 64, 16, 16, 16]⟩ : Shape).ReducesTo [0, 2, 3, 4] ⟨1, ![64]⟩)
    (v : (⟨5, ![2, 64, 16, 16, 16]⟩ : Shape).Idx → EReal) (c : Fin 64) :
    ∑ i ∈ Finset.univ.filter (fun i => h.drop i = ix1 c), v i
      = ∑ b : Fin 2, ∑ d : Fin 16, ∑ r : Fin 16, ∑ w : Fin 16, v (ix5 b c d r w) := by
  refine (Finset.sum_filter_eq_sum_of_fiber _ (fun k : Fin 2 × Fin 16 × Fin 16 × Fin 16 => ix5 k.1 c k.2.1 k.2.2.1 k.2.2.2)
    (fun _ _ e => Prod.ext (congrFun e 0) (Prod.ext (congrFun e 2) (Prod.ext (congrFun e 3) (congrFun e 4)))) ?_ v).trans ?_
  · intro i
    constructor
    · intro e
      refine ⟨(i 0, i 2, i 3, i 4), ?_⟩
      funext a; apply Fin.ext
      match a with
      | ⟨0, _⟩ => rfl
      | ⟨1, _⟩ => exact (congrArg Fin.val (congrFun e ⟨0, by decide⟩)).symm
      | ⟨2, _⟩ => rfl
      | ⟨3, _⟩ => rfl
      | ⟨4, _⟩ => rfl
    · rintro ⟨k, rfl⟩
      funext b
      apply Fin.ext
      match b with
      | ⟨0, _⟩ => rfl
  · simp only [Fintype.sum_prod_type]

/-- A sum over the lattice, axis by axis. -/
theorem sum_vox {M : Type*} [AddCommMonoid M] (f : Fin 4096 → M) :
    ∑ d : Fin 16, ∑ r : Fin 16, ∑ w : Fin 16, f (Cert.Model.vox d r w) = ∑ n, f n := by
  rw [← Fintype.sum_equiv (⟨fun p : Fin 16 × Fin 16 × Fin 16 => Cert.Model.vox p.1 p.2.1 p.2.2,
    fun n => (Cert.Model.dep n, Cert.Model.hei n, Cert.Model.wid n), fun p => by
      refine Prod.ext (Fin.ext ?_) (Prod.ext (Fin.ext ?_) (Fin.ext ?_)) <;>
        simp only [Cert.Model.vox, Cert.Model.dep, Cert.Model.hei, Cert.Model.wid] <;> omega,
    Cert.Model.vox_self⟩ : Fin 16 × Fin 16 × Fin 16 ≃ Fin 4096) (fun p => f (Cert.Model.vox p.1 p.2.1 p.2.2)) f (fun _ => rfl)]
  simp only [Fintype.sum_prod_type]

/-- A sum over the sixteen thousand places of a group, channel by channel. -/
theorem sum_group {M : Type*} [AddCommMonoid M] (f : Fin 4 → Fin 4096 → M) :
    ∑ m : Fin 16384, f ⟨m.val / 4096, by omega⟩ ⟨m.val % 4096, by omega⟩ = ∑ j, ∑ n, f j n := by
  rw [← Fintype.sum_equiv (⟨fun p : Fin 4 × Fin 4096 => (⟨p.1.val * 4096 + p.2.val, by omega⟩ : Fin 16384),
    fun m => (⟨m.val / 4096, by omega⟩, ⟨m.val % 4096, by omega⟩), fun p => by
      refine Prod.ext (Fin.ext ?_) (Fin.ext ?_) <;> (simp only []; omega), fun m => by apply Fin.ext; simp only []; omega⟩ :
      Fin 4 × Fin 4096 ≃ Fin 16384) (fun p => f p.1 p.2) _ (fun p => by
        congr 1 <;> apply Fin.ext <;> simp only [Equiv.coe_fn_mk] <;> omega)]
  simp only [Fintype.sum_prod_type]

end Cert.Reals
-- ==== Proof.Infinite.lean ====
/-
  What infinite weights do. The values, the output projection and the second step's gain and offset may be infinite: an
  attention is infinite as soon as one of its values is, and a group or a channel that holds an infinite number is
  normalized to zero by both programs, the one because its variance is infinite, the other because it is minus infinity.
-/
module
public import proofs.«01_k».proof.Proof.Reals

@[expose] public section

set_option maxRecDepth 16384

noncomputable section

open Idealize.ShloMosaic

namespace Cert.Model

open Cert.Reals

/-- Not a real number. -/
def Inf (a : EReal) : Prop := a = ⊤ ∨ a = ⊥

theorem not_inf {a : EReal} (h : ¬ Inf a) : a = ((a.toReal : ℝ) : EReal) :=
  (EReal.coe_toReal (fun e => h (Or.inl e)) (fun e => h (Or.inr e))).symm

theorem inf_coe (r : ℝ) : ¬ Inf (r : EReal) := fun h => h.elim (EReal.coe_ne_top r) (EReal.coe_ne_bot r)

theorem Inf.add {a : EReal} (h : Inf a) (b : EReal) : Inf (a + b) := by
  rcases h with rfl | rfl
  · induction b using EReal.rec with
    | bot => exact Or.inr (EReal.add_bot _)
    | top => exact Or.inl EReal.top_add_top
    | coe r => exact Or.inl (EReal.top_add_coe r)
  · exact Or.inr (EReal.bot_add b)

theorem Inf.add_left {b : EReal} (h : Inf b) (a : EReal) : Inf (a + b) := add_comm b a ▸ h.add a

theorem Inf.neg {a : EReal} (h : Inf a) : Inf (-a) := by
  rcases h with rfl | rfl
  · exact Or.inr EReal.neg_top
  · exact Or.inl EReal.neg_bot

theorem Inf.sub {a : EReal} (h : Inf a) (b : EReal) : Inf (a - b) := by rw [sub_eq_add_neg]; exact h.add _

theorem Inf.sub_left {b : EReal} (h : Inf b) (a : EReal) : Inf (a - b) := by rw [sub_eq_add_neg]; exact h.neg.add_left _

theorem inf_sum {ι : Type*} (s : Finset ι) (f : ι → EReal) (i : ι) (hi : i ∈ s) (h : Inf (f i)) : Inf (∑ j ∈ s, f j) := by
  classical
  rw [← Finset.add_sum_erase s f hi]
  exact h.add _

theorem Inf.mul_coe {a : EReal} (h : Inf a) {r : ℝ} (hr : r ≠ 0) : Inf (a * (r : EReal)) := by
  rcases lt_or_gt_of_ne hr with n | p
  · rcases h with rfl | rfl
    · exact Or.inr (EReal.top_mul_coe_of_neg n)
    · exact Or.inl (EReal.bot_mul_coe_of_neg n)
  · rcases h with rfl | rfl
    · exact Or.inl (EReal.top_mul_coe_of_pos p)
    · exact Or.inr (EReal.bot_mul_coe_of_pos p)

theorem Inf.coe_mul {a : EReal} (h : Inf a) {r : ℝ} (hr : r ≠ 0) : Inf ((r : EReal) * a) := by
  rw [mul_comm]; exact h.mul_coe hr

theorem Inf.mul {a b : EReal} (ha : Inf a) (hb : Inf b) : Inf (a * b) := by
  rcases ha with rfl | rfl <;> rcases hb with rfl | rfl <;> simp [Inf]

theorem Inf.square {a : EReal} (h : Inf a) : a * a = ⊤ := by
  rcases h with rfl | rfl <;> simp

theorem square_nonneg (a : EReal) : 0 ≤ a * a := by
  by_cases h : Inf a
  · rw [h.square]; exact le_top
  · rw [not_inf h, ← EReal.coe_mul]; exact_mod_cast mul_self_nonneg _

theorem Inf.div {a : EReal} (h : Inf a) {r : ℝ} (hr : r ≠ 0) : Inf (Ideal.div a (r : EReal)) := by
  rw [Ideal.div_coe hr]; exact h.mul_coe (one_div_ne_zero hr)

theorem top_div {r : ℝ} (hr : 0 < r) : Ideal.div ⊤ (r : EReal) = ⊤ := by
  rw [Ideal.div_coe hr.ne']; exact EReal.top_mul_coe_of_pos (one_div_pos.mpr hr)

theorem div_top (a : EReal) : Ideal.div a ⊤ = 0 := by
  unfold Ideal.div; rw [if_neg (by simp), EReal.inv_top, mul_zero]

theorem div_bot (a : EReal) : Ideal.div a ⊥ = 0 := by
  unfold Ideal.div; rw [if_neg (by simp), EReal.inv_bot, mul_zero]

/-- A sum of numbers none below zero, one of them infinite, is infinite. -/
theorem sum_top {ι : Type*} (s : Finset ι) (f : ι → EReal) (i : ι) (hi : i ∈ s) (h : f i = ⊤) (h0 : ∀ j ∈ s, 0 ≤ f j) :
    ∑ j ∈ s, f j = ⊤ := by
  have : f i ≤ ∑ j ∈ s, f j := Finset.single_le_sum h0 hi
  rw [h] at this
  exact top_le_iff.mp this

/-! ### Equal, or both infinite -/

def Sim (a b : EReal) : Prop := a = b ∨ (Inf a ∧ Inf b)

theorem Sim.inf_iff {a b : EReal} (h : Sim a b) : Inf a ↔ Inf b := by
  rcases h with rfl | h
  · exact Iff.rfl
  · exact ⟨fun _ => h.2, fun _ => h.1⟩

theorem Sim.eq {a b : EReal} (h : Sim a b) (hb : ¬ Inf b) : a = b := h.elim id fun h => absurd h.2 hb

theorem Sim.add {a b c d : EReal} (h : Sim a b) (k : Sim c d) : Sim (a + c) (b + d) := by
  rcases h with rfl | h
  · rcases k with rfl | k
    · exact Or.inl rfl
    · exact Or.inr ⟨k.1.add_left _, k.2.add_left _⟩
  · exact Or.inr ⟨h.1.add _, h.2.add _⟩

theorem Sim.sum {ι : Type*} (s : Finset ι) (f g : ι → EReal) (h : ∀ i, Sim (f i) (g i)) : Sim (∑ i ∈ s, f i) (∑ i ∈ s, g i) := by
  classical
  induction s using Finset.induction_on with
  | empty => exact Or.inl (by simp)
  | insert a s ha ih => rw [Finset.sum_insert ha, Finset.sum_insert ha]; exact (h a).add ih

theorem Sim.mul_left {a b : EReal} (h : Sim a b) (w : EReal) : Sim (w * a) (w * b) := by
  rcases h with rfl | h
  · exact Or.inl rfl
  · by_cases hw : Inf w
    · exact Or.inr ⟨hw.mul h.1, hw.mul h.2⟩
    · rw [not_inf hw]
      by_cases h0 : w.toReal = 0
      · rw [h0]; exact Or.inl (by simp)
      · exact Or.inr ⟨h.1.coe_mul h0, h.2.coe_mul h0⟩

/-! ### The attention -/

/-- A property of every neighbour is a property of every place of the three lines. -/
theorem lines (p : Fin 4096 → Prop) (n : Fin 4096) :
    (∀ k, p (nbr n k)) ↔ ∀ k ∈ Finset.range 16, p (turnD n k) ∧ p (turnH n k) ∧ p (turnW n k) := by
  classical
  let f : Fin 4096 → ℝ := fun m => if p m then 0 else 1
  have f0 : ∀ m, 0 ≤ f m := fun m => by unfold f; split_ifs <;> norm_num
  have fp : ∀ m, f m = 0 ↔ p m := fun m => by unfold f; split_ifs with h <;> simp [h]
  have e := merged (fun _ => 0) f n 0 0 0 0
  simp only [sub_self, Real.exp_zero, one_mul, mul_one, neg_zero] at e
  have sD := Finset.sum_nonneg (fun k (_ : k ∈ Finset.range 16) => f0 (turnD n k))
  have sH := Finset.sum_nonneg (fun k (_ : k ∈ Finset.range 16) => f0 (turnH n k))
  have sW := Finset.sum_nonneg (fun k (_ : k ∈ Finset.range 16) => f0 (turnW n k))
  have z : (0 : ℕ) ∈ Finset.range 16 := by decide
  have nD : f n ≤ ∑ k ∈ Finset.range 16, f (turnD n k) := by
    have := Finset.single_le_sum (fun k (_ : k ∈ Finset.range 16) => f0 (turnD n k)) z
    rwa [show turnD n 0 = n from Fin.ext (by simp only [turnD]; omega)] at this
  have nH : f n ≤ ∑ k ∈ Finset.range 16, f (turnH n k) := by
    have := Finset.single_le_sum (fun k (_ : k ∈ Finset.range 16) => f0 (turnH n k)) z
    rwa [show turnH n 0 = n from Fin.ext (by simp only [turnH]; omega)] at this
  have nW : f n ≤ ∑ k ∈ Finset.range 16, f (turnW n k) := by
    have := Finset.single_le_sum (fun k (_ : k ∈ Finset.range 16) => f0 (turnW n k)) z
    rwa [show turnW n 0 = n from Fin.ext (by simp only [turnW]; omega)] at this
  have n0 := f0 n
  constructor
  · intro h
    rw [Finset.sum_eq_zero (fun k _ => (fp _).mpr (h k))] at e
    intro k hk
    refine ⟨(fp _).mp ?_, (fp _).mp ?_, (fp _).mp ?_⟩
    · exact (Finset.sum_eq_zero_iff_of_nonneg (fun k _ => f0 (turnD n k))).mp (by linarith) k hk
    · exact (Finset.sum_eq_zero_iff_of_nonneg (fun k _ => f0 (turnH n k))).mp (by linarith) k hk
    · exact (Finset.sum_eq_zero_iff_of_nonneg (fun k _ => f0 (turnW n k))).mp (by linarith) k hk
  · intro h k
    rw [Finset.sum_eq_zero (fun k hk => (fp (turnD n k)).mpr (h k hk).1), Finset.sum_eq_zero (fun k hk => (fp (turnH n k)).mpr (h k hk).2.1),
      Finset.sum_eq_zero (fun k hk => (fp (turnW n k)).mpr (h k hk).2.2)] at e
    have s : ∑ k, f (nbr n k) = 0 := le_antisymm (by linarith) (Finset.sum_nonneg fun k _ => f0 _)
    exact (fp _).mp ((Finset.sum_eq_zero_iff_of_nonneg (fun k _ => f0 (nbr n k))).mp s k (Finset.mem_univ k))

/-- `y` is the attention of the values `v` at voxel `n` under the logits `l`: the weighted mean of real values, and
    infinite when a value is. -/
def IsAttn (l : Fin 4096 → ℝ) (v : Fin 4096 → EReal) (n : Fin 4096) (y : EReal) : Prop :=
  ((∀ k, ¬ Inf (v (nbr n k))) →
    y = (((∑ k, Real.exp (l (nbr n k)) * (v (nbr n k)).toReal) / ∑ k, Real.exp (l (nbr n k)) : ℝ) : EReal))
  ∧ ((∃ k, Inf (v (nbr n k))) → Inf y)

theorem IsAttn.sim {l : Fin 4096 → ℝ} {v : Fin 4096 → EReal} {n : Fin 4096} {y z : EReal} (hy : IsAttn l v n y)
    (hz : IsAttn l v n z) : Sim y z := by
  by_cases h : ∃ k, Inf (v (nbr n k))
  · exact Or.inr ⟨hy.2 h, hz.2 h⟩
  · have h' := not_exists.mp h
    exact Or.inl ((hy.1 h').trans (hz.1 h').symm)

/-- The row of the stacked projections that holds value `o`. -/
def valRow (o : Fin 32) : Fin 64 := ⟨32 + o.val, by omega⟩

/-- Numbers a layer holds, infinite ones among them. -/
abbrev ActE := Fin 2 → Fin 64 → Fin 4096 → EReal

def valE (G : Fin 32 → Fin 64 → EReal) (Bg : Fin 32 → EReal) (h : Act) (b : Fin 2) (o : Fin 32) (n : Fin 4096) : EReal :=
  ∑ k, G o k * ((h b k n : ℝ) : EReal) + Bg o

def crossE (wr : Fin 64 → Fin 32 → EReal) (br : Fin 64 → EReal) (y : Fin 2 → Fin 32 → Fin 4096 → EReal) : ActE :=
  fun b ch n => ∑ o, wr ch o * y b o n + br ch

/-! ### The two norms -/

/-- The real numbers among them. -/
def toR (c : ActE) : Act := fun b ch n => (c b ch n).toReal

open Classical in
def gnormE (c : ActE) : Act := fun b ch n =>
  if ∀ j m, ¬ Inf (c b (chan (grp ch) j) m) then
    (toR c b ch n - gmean (toR c) b (grp ch)) / Real.sqrt (gvar (toR c) b (grp ch) + eps)
  else 0

open Classical in
def bnormE (c : ActE) : Act := fun b ch n =>
  if ∀ b' m, ¬ Inf (c b' ch m) then bnorm eps (toR c) b ch n else 0

theorem chan_self (ch : Fin 64) : chan (grp ch) ⟨ch.val % 4, by omega⟩ = ch := Fin.ext (by simp only [chan, grp]; omega)

theorem grp_chan (q : Fin 16) (j : Fin 4) : grp (chan q j) = q := Fin.ext (by simp only [chan, grp]; omega)

/-- The group norm sees infinite numbers as infinite only. -/
theorem gnormE_congr (c d : ActE) (h : ∀ b ch n, Sim (c b ch n) (d b ch n)) : gnormE c = gnormE d := by
  funext b ch n
  have hi : (∀ j m, ¬ Inf (c b (chan (grp ch) j) m)) ↔ ∀ j m, ¬ Inf (d b (chan (grp ch) j) m) :=
    forall_congr' fun j => forall_congr' fun m => not_congr (h _ _ _).inf_iff
  unfold gnormE
  by_cases hd : ∀ j m, ¬ Inf (d b (chan (grp ch) j) m)
  · rw [if_pos (hi.mpr hd), if_pos hd]
    have e : ∀ j m, toR c b (chan (grp ch) j) m = toR d b (chan (grp ch) j) m := fun j m =>
      congrArg EReal.toReal ((h _ _ _).eq (hd j m))
    have e0 : toR c b ch n = toR d b ch n := by have := e ⟨ch.val % 4, by omega⟩ n; rwa [chan_self] at this
    have em : gmean (toR c) b (grp ch) = gmean (toR d) b (grp ch) := by unfold gmean; simp only [e]
    have ev : gvar (toR c) b (grp ch) = gvar (toR d) b (grp ch) := by unfold gvar; simp only [e, em]
    rw [e0, em, ev]
  · rw [if_neg (fun hc => hd (hi.mp hc)), if_neg hd]

/-- Two attentions of the same values give one group norm. -/
theorem gnormE_cross (wr : Fin 64 → Fin 32 → EReal) (br : Fin 64 → EReal) (y z : Fin 2 → Fin 32 → Fin 4096 → EReal)
    (l : Fin 2 → Fin 4096 → Fin 4096 → ℝ) (v : Fin 2 → Fin 32 → Fin 4096 → EReal)
    (hy : ∀ b o n, IsAttn (l b n) (v b o) n (y b o n)) (hz : ∀ b o n, IsAttn (l b n) (v b o) n (z b o n)) :
    gnormE (crossE wr br y) = gnormE (crossE wr br z) :=
  gnormE_congr _ _ fun b ch n =>
    (Sim.sum _ _ _ fun o => ((hy b o n).sim (hz b o n)).mul_left _).add (Or.inl rfl)

end Cert.Model
-- ==== Proof.Reads.lean ====
/-
  The kernel's array functions read at an index, at the ideal numbers.
-/
module
public import proofs.«01_k».proof.Proof.Vec
public import proofs.«01_k».proof.Proof.Infinite

@[expose] public section

set_option maxRecDepth 16384

noncomputable section

open Idealize.ShloMosaic

namespace Cert.KernelIdeal.Vec

open Cert.KernelIdeal Cert.KernelIdeal.Gen Cert.Model Cert.Reals

/-! ### The projections -/

theorem projV_apply (x : FVec Ideal S2x64x4096 .f32) (w : FVec Ideal S64x64 .f32) (bb : FVec Ideal S64x1 .f32)
    (b : Fin 2) (c : Fin 64) (n : Fin 4096) :
    projV x w bb (ix3 b c n) = ∑ k, w (ix2 c k) * x (ix3 b k n) + bb (ix2 c 0) := by
  pointwise [projV, stack, batch0, batch1, spread]
  fin_cases b <;> simp

theorem crossV_apply (y : FVec Ideal S2x32x4096 .f32) (w : FVec Ideal S64x32 .f32) (bb : FVec Ideal S64x1 .f32)
    (b : Fin 2) (c : Fin 64) (n : Fin 4096) :
    crossV y w bb (ix3 b c n) = ∑ k, w (ix2 c k) * y (ix3 b k n) + bb (ix2 c 0) := by
  pointwise [crossV, stack, attn0, attn1, spread]
  fin_cases b <;> simp

/-! ### Chains over the sixteen places of a line -/

variable {s : Shape}

theorem chain_add_apply (f : ℕ → FVec Ideal s .f32) (i : s.Idx) (m : ℕ) :
    chain addf f m i = ∑ k ∈ Finset.range (m + 1), f k i := by
  induction m with
  | zero => rw [Finset.sum_range_one]; rfl
  | succ m ih =>
    rw [Finset.sum_range_succ, ← ih]
    rfl

theorem chain_max_apply (f : ℕ → FVec Ideal s .f32) (g : ℕ → ℝ) (i : s.Idx) (m : ℕ)
    (h : ∀ k, k ≤ m → f k i = ((g k : ℝ) : EReal)) : ∃ M : ℝ, chain maximumf f m i = ((M : ℝ) : EReal) := by
  induction m with
  | zero => exact ⟨g 0, h 0 le_rfl⟩
  | succ m ih =>
    obtain ⟨M, hM⟩ := ih (fun k hk => h k (by omega))
    refine ⟨max M (g (m + 1)), ?_⟩
    rw [← coe_max, ← hM, ← h (m + 1) le_rfl]
    rfl

theorem lineE_apply (f : ℕ → FVec Ideal s .f32) (g : ℕ → ℝ) (i : s.Idx) (M : ℝ) (hM : lineM f i = ((M : ℝ) : EReal))
    (k : ℕ) (h : f k i = ((g k : ℝ) : EReal)) : lineE f k i = ((Real.exp (g k - M) : ℝ) : EReal) := by
  show Ideal.exp (f k i - lineM f i) = _
  rw [h, hM, ← EReal.coe_sub, Ideal.exp_coe]

theorem lineZ_apply (f : ℕ → FVec Ideal s .f32) (g : ℕ → ℝ) (i : s.Idx) (M : ℝ) (hM : lineM f i = ((M : ℝ) : EReal))
    (h : ∀ k, k ≤ 15 → f k i = ((g k : ℝ) : EReal)) :
    lineZ f i = ((∑ k ∈ Finset.range 16, Real.exp (g k - M) : ℝ) : EReal) := by
  rw [coe_sum]
  refine (chain_add_apply _ i 15).trans (Finset.sum_congr rfl fun k hk => ?_)
  exact lineE_apply f g i M hM k (h k (Nat.lt_succ_iff.mp (Finset.mem_range.mp hk)))

theorem wideF_apply (e : FVec Ideal S2x1x4096 .f32) (b : Fin 2) (o : Fin 32) (n : Fin 4096) :
    wideF e (ix3 b o n) = e (ix3 b 0 n) := by
  pointwise [wideF]

theorem wideG_apply (e : FVec Ideal S2x16x256 .f32) (b : Fin 2) (o : Fin 32) (d : Fin 16) (l : Fin 256) :
    wideG e (ix4 b o d l) = e (ix3 b d l) := by
  pointwise [wideG]

theorem sumF_apply (e : ℕ → FVec Ideal S2x1x4096 .f32) (v : ℕ → FVec Ideal S2x32x4096 .f32) (x : ℕ → ℝ) (y : ℕ → EReal)
    (b : Fin 2) (o : Fin 32) (n : Fin 4096) (he : ∀ k, k ≤ 15 → e k (ix3 b 0 n) = ((x k : ℝ) : EReal))
    (hv : ∀ k, k ≤ 15 → v k (ix3 b o n) = y k) :
    sumF e v (ix3 b o n) = ∑ k ∈ Finset.range 16, ((x k : ℝ) : EReal) * y k := by
  refine (chain_add_apply _ _ 15).trans (Finset.sum_congr rfl fun k hk => ?_)
  have h := Nat.lt_succ_iff.mp (Finset.mem_range.mp hk)
  show wideF (e k) (ix3 b o n) * v k (ix3 b o n) = _
  rw [wideF_apply, he k h, hv k h]

theorem sumG_apply (e : ℕ → FVec Ideal S2x16x256 .f32) (v : ℕ → FVec Ideal S2x32x16x256 .f32) (x : ℕ → ℝ) (y : ℕ → EReal)
    (b : Fin 2) (o : Fin 32) (d : Fin 16) (l : Fin 256) (he : ∀ k, k ≤ 15 → e k (ix3 b d l) = ((x k : ℝ) : EReal))
    (hv : ∀ k, k ≤ 15 → v k (ix4 b o d l) = y k) :
    sumG e v (ix4 b o d l) = ∑ k ∈ Finset.range 16, ((x k : ℝ) : EReal) * y k := by
  refine (chain_add_apply _ _ 15).trans (Finset.sum_congr rfl fun k hk => ?_)
  have h := Nat.lt_succ_iff.mp (Finset.mem_range.mp hk)
  show wideG (e k) (ix4 b o d l) * v k (ix4 b o d l) = _
  rw [wideG_apply, he k h, hv k h]

/-! ### The three axes' shifts -/

theorem rollD16_apply (x : FVec Ideal S2x16x4096 .f32) (k : ℕ) (b : Fin 2) (c : Fin 16) (n : Fin 4096) :
    iter rollD16 x k (ix3 b c n) = x (ix3 b c (turnD n k)) := by
  induction k generalizing n with
  | zero => exact congrArg (fun m => x (ix3 b c m)) (Fin.ext (by simp [turnD, Nat.mod_eq_of_lt n.isLt]))
  | succ k ih =>
    show rollD16 (iter rollD16 x k) (ix3 b c n) = _
    pointwise [rollD16]
    rw [ih]
    exact congrArg (fun m => x (ix3 b c m)) (Fin.ext (by simp only [turnD]; omega))

theorem rollD32_apply (x : FVec Ideal S2x32x4096 .f32) (k : ℕ) (b : Fin 2) (c : Fin 32) (n : Fin 4096) :
    iter rollD32 x k (ix3 b c n) = x (ix3 b c (turnD n k)) := by
  induction k generalizing n with
  | zero => exact congrArg (fun m => x (ix3 b c m)) (Fin.ext (by simp [turnD, Nat.mod_eq_of_lt n.isLt]))
  | succ k ih =>
    show rollD32 (iter rollD32 x k) (ix3 b c n) = _
    pointwise [rollD32]
    rw [ih]
    exact congrArg (fun m => x (ix3 b c m)) (Fin.ext (by simp only [turnD]; omega))

theorem rollH16_apply (x : FVec Ideal S2x16x16x256 .f32) (k : ℕ) (b : Fin 2) (c d : Fin 16) (l : Fin 256) :
    iter rollH16 x k (ix4 b c d l) = x (ix4 b c d ⟨(l.val + 16 * k) % 256, Nat.mod_lt _ (by omega)⟩) := by
  induction k generalizing l with
  | zero => exact congrArg (fun m => x (ix4 b c d m)) (Fin.ext (by simp [Nat.mod_eq_of_lt l.isLt]))
  | succ k ih =>
    show rollH16 (iter rollH16 x k) (ix4 b c d l) = _
    pointwise [rollH16]
    rw [ih]
    exact congrArg (fun m => x (ix4 b c d m)) (Fin.ext (by simp only []; omega))

theorem rollH32_apply (x : FVec Ideal S2x32x16x256 .f32) (k : ℕ) (b : Fin 2) (c : Fin 32) (d : Fin 16) (l : Fin 256) :
    iter rollH32 x k (ix4 b c d l) = x (ix4 b c d ⟨(l.val + 16 * k) % 256, Nat.mod_lt _ (by omega)⟩) := by
  induction k generalizing l with
  | zero => exact congrArg (fun m => x (ix4 b c d m)) (Fin.ext (by simp [Nat.mod_eq_of_lt l.isLt]))
  | succ k ih =>
    show rollH32 (iter rollH32 x k) (ix4 b c d l) = _
    pointwise [rollH32]
    rw [ih]
    exact congrArg (fun m => x (ix4 b c d m)) (Fin.ext (by simp only []; omega))

theorem rollW16_apply (x : FVec Ideal S2x16x16x256 .f32) (k : ℕ) (b : Fin 2) (c d : Fin 16) (l : Fin 256) :
    iter rollW16 x k (ix4 b c d l) = x (ix4 b c d ⟨(l.val + k) % 256, Nat.mod_lt _ (by omega)⟩) := by
  induction k generalizing l with
  | zero => exact congrArg (fun m => x (ix4 b c d m)) (Fin.ext (by simp [Nat.mod_eq_of_lt l.isLt]))
  | succ k ih =>
    show rollW16 (iter rollW16 x k) (ix4 b c d l) = _
    pointwise [rollW16]
    rw [ih]
    exact congrArg (fun m => x (ix4 b c d m)) (Fin.ext (by simp only []; omega))

theorem rollW32_apply (x : FVec Ideal S2x32x16x256 .f32) (k : ℕ) (b : Fin 2) (c : Fin 32) (d : Fin 16) (l : Fin 256) :
    iter rollW32 x k (ix4 b c d l) = x (ix4 b c d ⟨(l.val + k) % 256, Nat.mod_lt _ (by omega)⟩) := by
  induction k generalizing l with
  | zero => exact congrArg (fun m => x (ix4 b c d m)) (Fin.ext (by simp [Nat.mod_eq_of_lt l.isLt]))
  | succ k ih =>
    show rollW32 (iter rollW32 x k) (ix4 b c d l) = _
    pointwise [rollW32]
    rw [ih]
    exact congrArg (fun m => x (ix4 b c d m)) (Fin.ext (by simp only []; omega))

theorem column_word (l : Fin 256) : k0_pay5 (ix4 0 0 0 l) = BitVec.ofNat 32 (l.val % 16) := by
  pointwise [k0_pay5]
  revert l
  decide +kernel

theorem slt_word : ∀ (a k : Fin 16), IntOp.cmpi .slt (BitVec.ofNat 32 a.val) (BitVec.ofNat 32 (16 - k.val))
    = if a.val + k.val < 16 then 1#1 else 0#1 := by decide +kernel

theorem intact_apply (k : ℕ) (hk : k < 16) (d : Fin 16) (l : Fin 256) :
    intact k (ix4 0 0 d l) = if l.val % 16 + k < 16 then 1#1 else 0#1 := by
  have hw : k0_pay5 (ix4 0 0 d l) = BitVec.ofNat 32 (l.val % 16) := by
    rw [← column_word l]; pointwise [k0_pay5]
  have : intact k (ix4 0 0 d l) = IntOp.cmpi .slt (k0_pay5 (ix4 0 0 d l)) (BitVec.ofNat 32 (16 - k)) := by
    pointwise [intact]
  rw [this, hw]
  exact slt_word ⟨l.val % 16, by omega⟩ ⟨k, hk⟩

theorem shiftW16_apply (x : FVec Ideal S2x16x16x256 .f32) (k : ℕ) (hk : k < 16) (b : Fin 2) (c d : Fin 16) (l : Fin 256) :
    shiftW16 x k (ix4 b c d l) = x (ix4 b c d ⟨l.val / 16 * 16 + (l.val + k) % 16, by omega⟩) := by
  cases k with
  | zero => exact congrArg (fun m => x (ix4 b c d m)) (Fin.ext (by simp only []; omega))
  | succ k =>
    show select (broadcastTo S2x16x16x256 (intact (k + 1)) broadcasts_S1x1x16x256_S2x16x16x256) (iter rollW16 x (k + 1))
      (dynamicRotate 3 16#32 none (iter rollW16 x (k + 1)) rotates_S2x16x16x256_d3) (ix4 b c d l) = _
    pointwise
    rw [intact_apply _ hk, rollW16_apply, rollW16_apply]
    split_ifs
    · exact congrArg (fun m => x (ix4 b c d m)) (Fin.ext (by simp only []; omega))
    · exact congrArg (fun m => x (ix4 b c d m)) (Fin.ext (by simp only []; omega))

theorem shiftW32_apply (x : FVec Ideal S2x32x16x256 .f32) (k : ℕ) (hk : k < 16) (b : Fin 2) (c : Fin 32) (d : Fin 16) (l : Fin 256) :
    shiftW32 x k (ix4 b c d l) = x (ix4 b c d ⟨l.val / 16 * 16 + (l.val + k) % 16, by omega⟩) := by
  cases k with
  | zero => exact congrArg (fun m => x (ix4 b c d m)) (Fin.ext (by simp only []; omega))
  | succ k =>
    show select (broadcastTo S2x32x16x256 (intact (k + 1)) broadcasts_S1x1x16x256_S2x32x16x256) (iter rollW32 x (k + 1))
      (dynamicRotate 3 16#32 none (iter rollW32 x (k + 1)) rotates_S2x32x16x256_d3) (ix4 b c d l) = _
    pointwise
    rw [intact_apply _ hk, rollW32_apply, rollW32_apply]
    split_ifs
    · exact congrArg (fun m => x (ix4 b c d m)) (Fin.ext (by simp only []; omega))
    · exact congrArg (fun m => x (ix4 b c d m)) (Fin.ext (by simp only []; omega))

end Cert.KernelIdeal.Vec
-- ==== Proof.Steps.lean ====
/-
  One step of the kernel, and its closing normalization, read at an index.
-/
module
public import proofs.«01_k».proof.Proof.Reads

@[expose] public section

set_option maxRecDepth 16384

noncomputable section

open Idealize.ShloMosaic

namespace Cert.KernelIdeal.Vec

open Cert.KernelIdeal Cert.KernelIdeal.Gen Cert.Model Cert.Reals

section attention

variable (p : FVec Ideal S2x64x4096 .f32) (P : Act)
  (ht : ∀ b (c : Fin 16) n, p (ix3 b ⟨c.val, by omega⟩ n) = ((P b ⟨c.val, by omega⟩ n : ℝ) : EReal))
  (hf : ∀ b (c : Fin 16) n, p (ix3 b ⟨16 + c.val, by omega⟩ n) = ((P b ⟨16 + c.val, by omega⟩ n : ℝ) : EReal))
  (v : Fin 2 → Fin 32 → Fin 4096 → EReal) (hv : ∀ b (o : Fin 32) n, p (ix3 b ⟨32 + o.val, by omega⟩ n) = v b o n)

section logits

include ht hf

/-! ### The logits -/

theorem fD_apply (k : ℕ) (b : Fin 2) (n : Fin 4096) :
    fD p k (ix3 b 0 n) = ((logit P b n (turnD n k) : ℝ) : EReal) := by
  unfold fD dotF
  pointwise [thetaF]
  simp only [rollD16_apply]
  pointwise [phiF]
  simp only [ht, hf, ← EReal.coe_mul, ← coe_sum]
  rfl

/-- The flat place of row-plane place `l` of plane `d`. -/
def flat (d : Fin 16) (l : Fin 256) : Fin 4096 := ⟨d.val * 256 + l.val, by omega⟩

theorem fH_apply (k : ℕ) (b : Fin 2) (d : Fin 16) (l : Fin 256) :
    fH p k (ix3 b d l) = ((logit P b (flat d l) (turnH (flat d l) k) : ℝ) : EReal) := by
  unfold fH dotG
  pointwise [thetaG, thetaF]
  simp only [rollH16_apply]
  pointwise [phiG, phiF]
  simp only [ht, hf, ← EReal.coe_mul, ← coe_sum]
  congr 1
  refine Finset.sum_congr rfl fun c _ => ?_
  congr 2
  apply Fin.ext
  simp only [turnH, flat]; omega

theorem fW_apply (k : ℕ) (hk : k ≤ 15) (b : Fin 2) (d : Fin 16) (l : Fin 256) :
    fW p k (ix3 b d l) = ((logit P b (flat d l) (turnW (flat d l) k) : ℝ) : EReal) := by
  unfold fW dotG
  pointwise [thetaG, thetaF]
  simp only [shiftW16_apply _ k (by omega : k < 16)]
  pointwise [phiG, phiF]
  simp only [ht, hf, ← EReal.coe_mul, ← coe_sum]
  congr 1
  refine Finset.sum_congr rfl fun c _ => ?_
  congr 2
  apply Fin.ext
  simp only [turnW, flat]; omega

theorem self_apply (b : Fin 2) (d : Fin 16) (l : Fin 256) :
    dotG (thetaG p) (phiG p) (ix3 b d l) = ((logit P b (flat d l) (flat d l) : ℝ) : EReal) := by
  pointwise [dotG, thetaG, thetaF, phiG, phiF]
  simp only [ht, hf, ← EReal.coe_mul, ← coe_sum]
  rfl

end logits

/-! ### The values -/

section values

include hv

theorem gF_apply (b : Fin 2) (o : Fin 32) (n : Fin 4096) : gF p (ix3 b o n) = v b o n := by
  pointwise [gF]
  rw [hv]

theorem gG_apply (b : Fin 2) (o : Fin 32) (d : Fin 16) (l : Fin 256) : gG p (ix4 b o d l) = v b o (flat d l) := by
  pointwise [gG, gF]
  rw [hv]; rfl

theorem valH_apply (k : ℕ) (b : Fin 2) (o : Fin 32) (d : Fin 16) (l : Fin 256) :
    iter rollH32 (gG p) k (ix4 b o d l) = v b o (turnH (flat d l) k) := by
  rw [rollH32_apply, gG_apply p v hv]
  congr 1
  apply Fin.ext; simp only [turnH, flat]; omega

theorem valW_apply (k : ℕ) (hk : k ≤ 15) (b : Fin 2) (o : Fin 32) (d : Fin 16) (l : Fin 256) :
    shiftW32 (gG p) k (ix4 b o d l) = v b o (turnW (flat d l) k) := by
  rw [shiftW32_apply _ _ (by omega), gG_apply p v hv]
  congr 1
  apply Fin.ext; simp only [turnW, flat]; omega

end values

/-! ### The three lines merged -/

include ht hf hv

/-- The kernel's quotient: the three lines' sums, rescaled, less twice the voxel itself, over the neighbours' weights. -/
theorem attnV_quot (b : Fin 2) (o : Fin 32) (d : Fin 16) (l : Fin 256) : ∃ MD MH MW T : ℝ,
    attnV p (ix4 b o d l) = Ideal.div
      ((∑ k ∈ Finset.range 16, ((Real.exp (logit P b (flat d l) (turnD (flat d l) k) - MD) : ℝ) : EReal)
            * v b o (turnD (flat d l) k)) * ((Real.exp (MD - T) : ℝ) : EReal)
        + (∑ k ∈ Finset.range 16, ((Real.exp (logit P b (flat d l) (turnH (flat d l) k) - MH) : ℝ) : EReal)
            * v b o (turnH (flat d l) k)) * ((Real.exp (MH - T) : ℝ) : EReal)
        + (∑ k ∈ Finset.range 16, ((Real.exp (logit P b (flat d l) (turnW (flat d l) k) - MW) : ℝ) : EReal)
            * v b o (turnW (flat d l) k)) * ((Real.exp (MW - T) : ℝ) : EReal)
        - ((2 * Real.exp (logit P b (flat d l) (flat d l) - T) : ℝ) : EReal) * v b o (flat d l))
      ((Real.exp (-T) * ∑ k, Real.exp (logit P b (flat d l) (nbr (flat d l) k)) : ℝ) : EReal) := by
  set n := flat d l with hn
  obtain ⟨MD, hMD⟩ := chain_max_apply (fD p) (fun k => logit P b n (turnD n k)) (ix3 b 0 n) 15
    (fun k _ => fD_apply p P ht hf k b n)
  obtain ⟨MH, hMH⟩ := chain_max_apply (fH p) (fun k => logit P b n (turnH n k)) (ix3 b d l) 15
    (fun k _ => fH_apply p P ht hf k b d l)
  obtain ⟨MW, hMW⟩ := chain_max_apply (fW p) (fun k => logit P b n (turnW n k)) (ix3 b d l) 15
    (fun k hk => fW_apply p P ht hf k hk b d l)
  have eMD : lineM (fD p) (ix3 b 0 n) = ((MD : ℝ) : EReal) := hMD
  have eMH : lineM (fH p) (ix3 b d l) = ((MH : ℝ) : EReal) := hMH
  have eMW : lineM (fW p) (ix3 b d l) = ((MW : ℝ) : EReal) := hMW
  have eZD := lineZ_apply (fD p) (fun k => logit P b n (turnD n k)) (ix3 b 0 n) MD eMD (fun k _ => fD_apply p P ht hf k b n)
  have eZH := lineZ_apply (fH p) (fun k => logit P b n (turnH n k)) (ix3 b d l) MH eMH (fun k _ => fH_apply p P ht hf k b d l)
  have eZW := lineZ_apply (fW p) (fun k => logit P b n (turnW n k)) (ix3 b d l) MW eMW
    (fun k hk => fW_apply p P ht hf k hk b d l)
  have eSD := sumF_apply (lineE (fD p)) (iter rollD32 (gF p)) (fun k => Real.exp (logit P b n (turnD n k) - MD))
    (fun k => v b o (turnD n k)) b o n
    (fun k _ => lineE_apply (fD p) (fun k => logit P b n (turnD n k)) (ix3 b 0 n) MD eMD k (fD_apply p P ht hf k b n))
    (fun k _ => by rw [rollD32_apply, gF_apply p v hv])
  have eSH := sumG_apply (lineE (fH p)) (iter rollH32 (gG p)) (fun k => Real.exp (logit P b n (turnH n k) - MH))
    (fun k => v b o (turnH n k)) b o d l
    (fun k _ => lineE_apply (fH p) (fun k => logit P b n (turnH n k)) (ix3 b d l) MH eMH k (fH_apply p P ht hf k b d l))
    (fun k _ => valH_apply p v hv k b o d l)
  have eSW := sumG_apply (lineE (fW p)) (shiftW32 (gG p)) (fun k => Real.exp (logit P b n (turnW n k) - MW))
    (fun k => v b o (turnW n k)) b o d l
    (fun k hk => lineE_apply (fW p) (fun k => logit P b n (turnW n k)) (ix3 b d l) MW eMW k (fW_apply p P ht hf k hk b d l))
    (fun k hk => valW_apply p v hv k hk b o d l)
  have eF := self_apply p P ht hf b d l
  have eG := gG_apply p v hv b o d l
  rw [← hn] at eF eG
  refine ⟨MD, MH, MW, max (max MD MH) MW, ?_⟩
  unfold attnV merge topM
  generalize dotG (thetaG p) (phiG p) = fs at *
  generalize gG p = g at *
  generalize lineM (fD p) = mD at *
  generalize lineM (fH p) = mH at *
  generalize lineM (fW p) = mW at *
  generalize lineZ (fD p) = zD at *
  generalize lineZ (fH p) = zH at *
  generalize lineZ (fW p) = zW at *
  generalize sumF (lineE (fD p)) (iter rollD32 (gF p)) = sD at *
  generalize sumG (lineE (fH p)) (iter rollH32 g) = sH at *
  generalize sumG (lineE (fW p)) (shiftW32 g) = sW at *
  pointwise [wideG]
  change Ideal.div _ _ = _
  rw [show (⟨d.val * 256 + l.val, _⟩ : Fin 4096) = n from rfl]
  rw [ofBits_two, eMD, eMH, eMW, eZD, eZH, eZW, eSD, eSH, eSW, eF, eG]
  simp only [coe_max, ← EReal.coe_sub, Ideal.exp_coe, ← EReal.coe_mul, ← EReal.coe_add]
  rw [merged_one (fun m => logit P b n m)]

theorem attnV_apply (b : Fin 2) (o : Fin 32) (d : Fin 16) (l : Fin 256) :
    IsAttn (logit P b (flat d l)) (v b o) (flat d l) (attnV p (ix4 b o d l)) := by
  obtain ⟨MD, MH, MW, T, e⟩ := attnV_quot p P ht hf v hv b o d l
  generalize flat d l = n at *
  have hz : Real.exp (-T) * ∑ k, Real.exp (logit P b n (nbr n k)) ≠ 0 := (mul_pos (Real.exp_pos _) (expsum_pos _ _)).ne'
  refine ⟨fun h => ?_, fun h => ?_⟩
  · have hl := (lines (fun m => ¬ Inf (v b o m)) n).mp h
    have h0 : ¬ Inf (v b o n) := by
      have := (hl 0 (by decide)).1
      rwa [show turnD n 0 = n from Fin.ext (by simp only [turnD]; omega)] at this
    rw [e, Finset.sum_congr rfl (fun k hk => congrArg _ (not_inf (hl k hk).1)),
      Finset.sum_congr rfl (fun k hk => congrArg _ (not_inf (hl k hk).2.1)),
      Finset.sum_congr rfl (fun k hk => congrArg _ (not_inf (hl k hk).2.2)), not_inf h0]
    simp only [← EReal.coe_sub, ← EReal.coe_mul, ← EReal.coe_add, ← coe_sum, EReal.toReal_coe]
    rw [merged (fun m => logit P b n m) (fun m => (v b o m).toReal)]
    rw [div_real _ _ hz, mul_div_mul_left _ _ (Real.exp_pos _).ne']
  · have hl : ∃ k ∈ Finset.range 16, Inf (v b o (turnD n k)) ∨ Inf (v b o (turnH n k)) ∨ Inf (v b o (turnW n k)) := by
      by_contra hn
      push Not at hn
      obtain ⟨k, hk⟩ := h
      exact (lines (fun m => ¬ Inf (v b o m)) n).mpr hn k hk
    obtain ⟨k, hk, hi⟩ := hl
    rw [e]
    refine Inf.div (Inf.sub ?_ _) hz
    rcases hi with hi | hi | hi
    · exact (((inf_sum _ _ k hk (hi.coe_mul (Real.exp_pos _).ne')).mul_coe (Real.exp_pos _).ne').add _).add _
    · exact (((inf_sum _ _ k hk (hi.coe_mul (Real.exp_pos _).ne')).mul_coe (Real.exp_pos _).ne').add_left _).add _
    · exact ((inf_sum _ _ k hk (hi.coe_mul (Real.exp_pos _).ne')).mul_coe (Real.exp_pos _).ne').add_left _

end attention

/-! ### The group norm -/

theorem meanG_apply (c : FVec Ideal S2x16x4x4096 .f32) (b : Fin 2) (q : Fin 16) :
    meanG c (ix4 b q 0 0) = Ideal.div (∑ j, ∑ n, c (ix4 b q j n)) ((16384 : ℝ) : EReal) := by
  pointwise [meanG]
  rw [ofBits_16384]

theorem groupV_apply (c : FVec Ideal S2x16x4x4096 .f32) (C : ActE)
    (hc : ∀ b q j n, c (ix4 b q j n) = C b (chan q j) n) (b : Fin 2) (q : Fin 16) (j : Fin 4) (n : Fin 4096) :
    groupV c (ix4 b q j n) = ((gnormE C b (chan q j) n : ℝ) : EReal) := by
  have e1 := meanG_apply c b q
  have e2 := meanG_apply (mulf c c) b q
  rw [show (∑ j, ∑ n, mulf c c (ix4 b q j n)) = ∑ j, ∑ n, c (ix4 b q j n) * c (ix4 b q j n) from rfl] at e2
  simp only [hc] at e1 e2
  pointwise [groupV]
  rw [e1, e2, hc, ofBits_eps]
  unfold gnormE
  rw [grp_chan]
  by_cases h : ∀ j m, ¬ Inf (C b (chan q j) m)
  · rw [if_pos h]
    have ht : ∀ j m, C b (chan q j) m = ((toR C b (chan q j) m : ℝ) : EReal) := fun j m => not_inf (h j m)
    simp only [ht, ← EReal.coe_mul, ← coe_sum]
    rw [div_real _ _ (by norm_num), div_real _ _ (by norm_num)]
    simp only [← EReal.coe_sub, ← EReal.coe_mul, ← EReal.coe_add]
    have hv := gvar_eq (toR C) b q
    unfold gmean at hv
    rw [hv, sqrt_real _ (add_nonneg (gvar_nonneg _ _ _) eps_pos.le), div_real _ _ (sqrt_ne _ (gvar_nonneg _ _ _))]
    rfl
  · rw [if_neg h]
    push Not at h
    obtain ⟨j', m', hi⟩ := h
    have hs : Inf (∑ j, ∑ n, C b (chan q j) n) :=
      inf_sum _ _ j' (Finset.mem_univ _) (inf_sum _ _ m' (Finset.mem_univ _) hi)
    rw [(hs.div (by norm_num)).square, EReal.sub_top, EReal.bot_add, Ideal.sqrt_bot, div_bot]
    simp

/-- The step: what it adds is the group norm of the projected attention, scaled and shifted. -/
theorem stepV_apply (x : FVec Ideal S2x64x4096 .f32) (w : FVec Ideal S64x64 .f32) (bb : FVec Ideal S64x1 .f32)
    (wr : FVec Ideal S64x32 .f32) (br ga be : FVec Ideal S64x1 .f32)
    (h : Act) (W : Fin 64 → Fin 64 → ℝ) (B : Fin 64 → ℝ) (G : Fin 32 → Fin 64 → EReal) (Bg : Fin 32 → EReal)
    (hx : ∀ b k n, x (ix3 b k n) = ((h b k n : ℝ) : EReal))
    (hw : ∀ c : Fin 64, c.val < 32 → ∀ k, w (ix2 c k) = ((W c k : ℝ) : EReal))
    (hb : ∀ c : Fin 64, c.val < 32 → bb (ix2 c 0) = ((B c : ℝ) : EReal))
    (hwg : ∀ (o : Fin 32) k, w (ix2 (valRow o) k) = G o k) (hbg : ∀ o : Fin 32, bb (ix2 (valRow o) 0) = Bg o) :
    ∃ y : Fin 2 → Fin 32 → Fin 4096 → EReal, (∀ b o n, IsAttn (logit (proj W B h) b n) (valE G Bg h b o) n (y b o n)) ∧
      ∀ b c n, stepV w bb wr br ga be x (ix3 b c n)
        = ((h b c n : ℝ) : EReal) + (((gnormE (crossE (fun c o => wr (ix2 c o)) (fun c => br (ix2 c 0)) y) b c n : ℝ) : EReal)
          * ga (ix2 c 0) + be (ix2 c 0)) := by
  have hp : ∀ b (c : Fin 64) n, c.val < 32 → projV x w bb (ix3 b c n) = ((proj W B h b c n : ℝ) : EReal) :=
    fun b c n hc => by
      rw [projV_apply, hb c hc]
      simp only [hw c hc, hx, ← EReal.coe_mul, ← coe_sum, ← EReal.coe_add]
      rfl
  have hv : ∀ b (o : Fin 32) n, projV x w bb (ix3 b (valRow o) n) = valE G Bg h b o n := fun b o n => by
    rw [projV_apply, hbg]
    simp only [hwg, hx]
    rfl
  let y : Fin 2 → Fin 32 → Fin 4096 → EReal := fun b o n =>
    attnV (projV x w bb) (ix4 b o ⟨n.val / 256, by omega⟩ ⟨n.val % 256, by omega⟩)
  refine ⟨y, fun b o n => ?_, fun b c n => ?_⟩
  · have := attnV_apply (projV x w bb) (proj W B h) (fun b c n => hp b _ n (by simp only []; omega))
      (fun b c n => hp b _ n (by simp only []; omega)) _ hv b o ⟨n.val / 256, by omega⟩ ⟨n.val % 256, by omega⟩
    rw [show flat ⟨n.val / 256, _⟩ ⟨n.val % 256, _⟩ = n from Fin.ext (by simp only [flat]; omega)] at this
    exact this
  · have hG : ∀ b q j n, shapeCast S2x16x4x4096 (crossV (shapeCast S2x32x4096 (attnV (projV x w bb))
        shapeCasts_S2x32x16x256_S2x32x4096) wr br) shapeCasts_S2x64x4096_S2x16x4x4096 (ix4 b q j n)
        = crossE (fun c o => wr (ix2 c o)) (fun c => br (ix2 c 0)) y b (chan q j) n := fun b q j n => by
      refine Eq.trans ?_ ((crossV_apply (shapeCast S2x32x4096 (attnV (projV x w bb)) shapeCasts_S2x32x16x256_S2x32x4096)
        wr br b (chan q j) n).trans ?_)
      · generalize crossV _ wr br = z
        pointwise
        rfl
      · refine congrArg (· + _) (Finset.sum_congr rfl fun o _ => congrArg (_ * ·) ?_)
        show _ = attnV (projV x w bb) _
        pointwise
    unfold stepV
    have hN := groupV_apply _ _ hG
    pointwise [spread]
    rw [hN, hx]
    have e : chan ⟨c.val / 4, by omega⟩ ⟨c.val % 4, by omega⟩ = c := Fin.ext (by simp only [chan]; omega)
    rw [e, add_assoc]

/-! ### The closing batch norm -/

theorem meanB_apply (c : FVec Ideal S2x64x4096 .f32) (q : Fin 64) :
    meanB c (ix3 0 q 0) = Ideal.div (∑ b, ∑ n, c (ix3 b q n)) ((8192 : ℝ) : EReal) := by
  pointwise [meanB]
  rw [sum_batch, ofBits_8192]

theorem finishV_apply (x : FVec Ideal S2x64x4096 .f32) (ga be : FVec Ideal S64x1 .f32) (C : ActE)
    (hx : ∀ b k n, x (ix3 b k n) = C b k n) (b : Fin 2) (c : Fin 64) (n : Fin 4096) :
    finishV ga be x (ix3 b c n) = max (((bnormE C b c n : ℝ) : EReal) * ga (ix2 c 0) + be (ix2 c 0)) 0 := by
  have e1 := meanB_apply x c
  have e2 := meanB_apply (mulf x x) c
  rw [show (∑ b, ∑ n, mulf x x (ix3 b c n)) = ∑ b, ∑ n, x (ix3 b c n) * x (ix3 b c n) from rfl] at e2
  simp only [hx] at e1 e2
  pointwise [finishV, spread]
  rw [e1, e2, hx, ofBits_eps]
  unfold bnormE
  by_cases h : ∀ b' m, ¬ Inf (C b' c m)
  · rw [if_pos h]
    have ht : ∀ b' m, C b' c m = ((toR C b' c m : ℝ) : EReal) := fun j m => not_inf (h j m)
    simp only [ht, ← EReal.coe_mul, ← coe_sum]
    rw [div_real _ _ (by norm_num), div_real _ _ (by norm_num)]
    simp only [← EReal.coe_sub, ← EReal.coe_mul, ← EReal.coe_add]
    have hv := bvar_eq (toR C) c
    unfold bmean at hv
    rw [hv, sqrt_real _ (add_nonneg (bvar_nonneg _ _) eps_pos.le), div_real _ _ (sqrt_ne _ (bvar_nonneg _ _))]
    rfl
  · rw [if_neg h]
    push Not at h
    obtain ⟨j', m', hi⟩ := h
    have hs : Inf (∑ b, ∑ n, C b c n) :=
      inf_sum _ _ j' (Finset.mem_univ _) (inf_sum _ _ m' (Finset.mem_univ _) hi)
    rw [(hs.div (by norm_num)).square, EReal.sub_top, EReal.bot_add, Ideal.sqrt_bot, div_bot]
    simp

end Cert.KernelIdeal.Vec
-- ==== Proof.RefVec.lean ====
/-
  The reference's arithmetic as a handful of array functions: the gather of the neighbours' rows, the logits, the softmax,
  the attention's output projection, the group normalization and the batch normalization; and its result as their composition.
-/
module

public import proofs.«01_k».proof.Proof.Gen.ReferenceIdeal.Run
public import Idealize.ShloMosaic.Lib.Tactic

@[expose] public section

set_option maxRecDepth 16384

noncomputable section

open Idealize.ShloMosaic Idealize.ShloMosaic.TcCoe Idealize.SL.Sem Idealize.ShloMosaic.StableHlo

namespace Cert.ReferenceIdeal.RVec

open Cert.ReferenceIdeal Cert.ReferenceIdeal.Gen Cert.ReferenceIdeal.Value

variable {F : FTy → Type} [FloatOps F]

/-- The activation with the voxels as rows. -/
def rowsV (x : FVec F S2x64x16x16x16 .f32) : FVec F S4096x2x64 .f32 :=
  transpose S4096x2x64 [2, 0, 1] (shapeCast _ x shapeCasts_S2x64x16x16x16_S2x64x4096) transposes_S2x64x4096_S4096x2x64_2_0_1

/-- The neighbour words, a negative one counted from the end. -/
def wordsV (idx : IVec S4096x46 32) : IVec S4096x46x1 32 :=
  broadcastInDim S4096x46x1 ![0, 1] bcast_S4096x46_S4096x46x1_0_1 (select (cmpi .slt idx (broadcastInDim S4096x46 ![] bcast_S_S4096x46 (constantI S_ 32 0#32))) (addi idx (broadcastInDim S4096x46 ![] bcast_S_S4096x46 (constantI S_ 32 4096#32))) idx)

/-- Whether a neighbour word is in range. -/
def maskV (w : IVec S4096x46x1 32) : IVec S4096x46 1 :=
  Host.reduce IntOp.andi (andi (cmpi .sge w (broadcastInDim S4096x46x1 ![] bcast_S_S4096x46x1 (constantI S_ 32 0#32))) (cmpi .sle w (broadcastInDim S4096x46x1 ![0, 1, 2] bcast_S1x1x1_S4096x46x1_0_1_2 (broadcastInDim S1x1x1 ![2] bcast_S1_S1x1x1_2 (constantI S1 32 4095#32))))) (constantI S_ 1 1#1) reducesTo_S4096x46x1_S4096x46_d2 h_S_

/-- The rows of the neighbours. -/
def takeV (x : FVec F S4096x2x64 .f32) (w : IVec S4096x46x1 32) : FVec F S4096x46x2x64 .f32 :=
  select (broadcastInDim S4096x46x2x64 ![0, 1] bcast_S4096x46_S4096x46x2x64_0_1 (maskV w)) (Host.gather gather_S4096x2x64_S4096x46x1_S4096x46x2x64_23_0_n_n_0_2_1264 x w) (broadcastInDim S4096x46x2x64 ![] bcast_S_S4096x46x2x64 (constant S_ .f32 0x7FC00000#32))

/-- The queries. -/
def thetaV (x : FVec F S4096x2x64 .f32) (w : FVec F S16x64 .f32) (b : FVec F S16 .f32) : FVec F S4096x2x16 .f32 :=
  addf (Host.dotGeneral dot_S4096x2x64_S64x16_S4096x2x16_2_0_01_1_n_n none x (transpose S64x16 [1, 0] w transposes_S16x64_S64x16_1_0)) (broadcastInDim S4096x2x16 ![0, 1, 2] bcast_S1x1x16_S4096x2x16_0_1_2 (broadcastInDim S1x1x16 ![2] bcast_S16_S1x1x16_2 b))

/-- The neighbours' keys. -/
def phiV (e : FVec F S4096x46x2x64 .f32) (w : FVec F S16x64 .f32) (b : FVec F S16 .f32) : FVec F S4096x46x2x16 .f32 :=
  addf (Host.dotGeneral dot_S4096x46x2x64_S64x16_S4096x46x2x16_3_0_012_1_n_n none e (transpose S64x16 [1, 0] w transposes_S16x64_S64x16_1_0)) (broadcastInDim S4096x46x2x16 ![0, 1, 2, 3] bcast_S1x1x1x16_S4096x46x2x16_0_1_2_3 (broadcastInDim S1x1x1x16 ![3] bcast_S16_S1x1x1x16_3 b))

/-- The neighbours' values. -/
def gV (e : FVec F S4096x46x2x64 .f32) (w : FVec F S32x64 .f32) (b : FVec F S32 .f32) : FVec F S4096x46x2x32 .f32 :=
  addf (Host.dotGeneral dot_S4096x46x2x64_S64x32_S4096x46x2x32_3_0_012_1_n_n none e (transpose S64x32 [1, 0] w transposes_S32x64_S64x32_1_0)) (broadcastInDim S4096x46x2x32 ![0, 1, 2, 3] bcast_S1x1x1x32_S4096x46x2x32_0_1_2_3 (broadcastInDim S1x1x1x32 ![3] bcast_S32_S1x1x1x32_3 b))

/-- The logits. -/
def logitV (t : FVec F S4096x2x16 .f32) (p : FVec F S4096x46x2x16 .f32) : FVec F S2x4096x1x46 .f32 :=
  Host.dotGeneral dot_S2x4096x1x16_S2x4096x16x46_S2x4096x1x46_3_2_2_3_01_01 none (transpose S2x4096x1x16 [2, 0, 1, 3] (broadcastInDim S4096x1x2x16 ![0, 2, 3] bcast_S4096x2x16_S4096x1x2x16_0_2_3 t) transposes_S4096x1x2x16_S2x4096x1x16_2_0_1_3) (transpose S2x4096x16x46 [2, 0, 3, 1] p transposes_S4096x46x2x16_S2x4096x16x46_2_0_3_1)

/-- The exponentials of the logits less their largest. -/
def expV (f : FVec F S2x4096x1x46 .f32) : FVec F S2x4096x1x46 .f32 :=
  Host.exp (subf f (broadcastInDim S2x4096x1x46 ![0, 1, 2, 3] bcast_S2x4096x1x1_S2x4096x1x46_0_1_2_3 (broadcastInDim S2x4096x1x1 ![0, 1, 2] bcast_S2x4096x1_S2x4096x1x1_0_1_2 (maximumf (broadcastInDim S2x4096x1 ![] bcast_S_S2x4096x1 (constant S_ .f32 0xFF800000#32)) (Host.reduce FloatOps.maximumf f (constant S_ .f32 0xFF800000#32) reducesTo_S2x4096x1x46_S2x4096x1_d3 h_S_)))))

/-- The attention of the neighbours' values. -/
def attnV (e : FVec F S2x4096x1x46 .f32) (g : FVec F S4096x46x2x32 .f32) : FVec F S2x4096x1x32 .f32 :=
  Host.dotGeneral dot_S2x4096x1x46_S2x4096x46x32_S2x4096x1x32_3_2_2_3_01_01 none (Host.divf e (broadcastInDim S2x4096x1x46 ![0, 1, 2, 3] bcast_S2x4096x1x1_S2x4096x1x46_0_1_2_3 (broadcastInDim S2x4096x1x1 ![0, 1, 2] bcast_S2x4096x1_S2x4096x1x1_0_1_2 (Host.reduceAdd e (constant S_ .f32 0x00000000#32) reducesTo_S2x4096x1x46_S2x4096x1_d3 h_S_)))) (transpose S2x4096x46x32 [2, 0, 1, 3] g transposes_S4096x46x2x32_S2x4096x46x32_2_0_1_3)

/-- The output projection, seen group by group. -/
def crossV (y : FVec F S2x4096x1x32 .f32) (w : FVec F S64x32 .f32) (b : FVec F S64 .f32) : FVec F S2x16x16384 .f32 :=
  shapeCast _ (shapeCast S2x64x16x16x16 (transpose S2x64x4096 [0, 2, 1] (addf (Host.dotGeneral dot_S2x4096x32_S32x64_S2x4096x64_2_0_01_1_n_n none (shapeCast _ y shapeCasts_S2x4096x1x32_S2x4096x32) (transpose S32x64 [1, 0] w transposes_S64x32_S32x64_1_0)) (broadcastInDim S2x4096x64 ![0, 1, 2] bcast_S1x1x64_S2x4096x64_0_1_2 (broadcastInDim S1x1x64 ![2] bcast_S64_S1x1x64_2 b))) transposes_S2x4096x64_S2x64x4096_0_2_1) shapeCasts_S2x64x4096_S2x64x16x16x16) shapeCasts_S2x64x16x16x16_S2x16x16384

/-- The group's size as the variance counts it. -/
def cntG : FVec F S_ .f32 := subf (constant S_ .f32 0x46800000#32) (sitofp .f32 (constantI S_ 32 0#32))

def meanG (c : FVec F S2x16x16384 .f32) : FVec F S2x16x1 .f32 :=
  Host.divf (broadcastInDim S2x16x1 ![0, 1] bcast_S2x16_S2x16x1_0_1 (Host.reduceAdd c (constant S_ .f32 0x00000000#32) reducesTo_S2x16x16384_S2x16_d2 h_S_)) (broadcastInDim S2x16x1 ![] bcast_S_S2x16x1 (constant S_ .f32 0x46800000#32))

def devG (c : FVec F S2x16x16384 .f32) : FVec F S2x16x16384 .f32 :=
  subf c (broadcastInDim S2x16x16384 ![0, 1, 2] bcast_S2x16x1_S2x16x16384_0_1_2 (meanG c))

def varG (c : FVec F S2x16x16384 .f32) : FVec F S2x16x1 .f32 :=
  select (broadcastInDim S2x16x1 ![] bcast_S_S2x16x1 (cmpf .ogt (cntG (F := F)) (constant S_ .f32 0x00000000#32))) (Host.divf (broadcastInDim S2x16x1 ![0, 1] bcast_S2x16_S2x16x1_0_1 (Host.reduceAdd (mulf (devG c) (devG c)) (constant S_ .f32 0x00000000#32) reducesTo_S2x16x16384_S2x16_d2 h_S_)) (broadcastInDim S2x16x1 ![] bcast_S_S2x16x1 (cntG (F := F)))) (broadcastInDim S2x16x1 ![] bcast_S_S2x16x1 (id (constant S_ .f32 0x7FC00000#32)))

def groupV (c : FVec F S2x16x16384 .f32) : FVec F S2x16x16384 .f32 :=
  Host.divf (devG c) (broadcastInDim S2x16x16384 ![0, 1, 2] bcast_S2x16x1_S2x16x16384_0_1_2 (Host.sqrt (addf (varG c) (broadcastInDim S2x16x1 ![] bcast_S_S2x16x1 (constant S_ .f32 0x3727C5AC#32)))))

/-- A channel's number spread over the activation. -/
def spread (b : FVec F S64 .f32) : FVec F S2x64x16x16x16 .f32 :=
  broadcastInDim S2x64x16x16x16 ![0, 1, 2, 3, 4] bcast_S1x64x1x1x1_S2x64x16x16x16_0_1_2_3_4 (broadcastInDim S1x64x1x1x1 ![1] bcast_S64_S1x64x1x1x1_1 b)

def row0 (g : FVec F S2x64 .f32) : FVec F S64 .f32 := shapeCast S64 (extractStridedSlice S1x64 ![0, 0] g slices_S2x64_S1x64_0_0) shapeCasts_S1x64_S64
def row1 (g : FVec F S2x64 .f32) : FVec F S64 .f32 := shapeCast S64 (extractStridedSlice S1x64 ![1, 0] g slices_S2x64_S1x64_1_0) shapeCasts_S1x64_S64

/-- A step's attention, from the neighbours' rows. -/
def crossS (x : FVec F S4096x2x64 .f32) (e : FVec F S4096x46x2x64 .f32) (wg : FVec F S32x64 .f32) (bg : FVec F S32 .f32)
    (wt : FVec F S16x64 .f32) (bt : FVec F S16 .f32) (wp : FVec F S16x64 .f32) (bp : FVec F S16 .f32)
    (wr : FVec F S64x32 .f32) (br : FVec F S64 .f32) : FVec F S2x16x16384 .f32 :=
  crossV (attnV (expV (logitV (thetaV x wt bt) (phiV e wp bp))) (gV e wg bg)) wr br

/-- One step. -/
def stepV (wg : FVec F S32x64 .f32) (bg : FVec F S32 .f32)
    (wt : FVec F S16x64 .f32) (bt : FVec F S16 .f32) (wp : FVec F S16x64 .f32) (bp : FVec F S16 .f32)
    (wr : FVec F S64x32 .f32) (br : FVec F S64 .f32) (ga be : FVec F S64 .f32) (idx : IVec S4096x46 32)
    (h : FVec F S2x64x16x16x16 .f32) : FVec F S2x64x16x16x16 .f32 :=
  addf h (addf (mulf (shapeCast S2x64x16x16x16 (groupV (crossS (rowsV h) (takeV (rowsV h) (wordsV idx)) wg bg wt bt wp bp wr br))
    shapeCasts_S2x16x16384_S2x64x16x16x16) (spread ga)) (spread be))

/-- The channel's size as the variance counts it. -/
def cntB : FVec F S_ .f32 := subf (constant S_ .f32 0x46000000#32) (sitofp .f32 (constantI S_ 32 0#32))

def meanB (c : FVec F S2x64x16x16x16 .f32) : FVec F S1x64x1x1x1 .f32 :=
  Host.divf (broadcastInDim S1x64x1x1x1 ![1] bcast_S64_S1x64x1x1x1_1 (Host.reduceAdd c (constant S_ .f32 0x00000000#32) reducesTo_S2x64x16x16x16_S64_d0_2_3_4 h_S_)) (broadcastInDim S1x64x1x1x1 ![] bcast_S_S1x64x1x1x1 (constant S_ .f32 0x46000000#32))

def devB (c : FVec F S2x64x16x16x16 .f32) : FVec F S2x64x16x16x16 .f32 :=
  subf c (broadcastInDim S2x64x16x16x16 ![0, 1, 2, 3, 4] bcast_S1x64x1x1x1_S2x64x16x16x16_0_1_2_3_4 (meanB c))

def varB (c : FVec F S2x64x16x16x16 .f32) : FVec F S1x64x1x1x1 .f32 :=
  select (broadcastInDim S1x64x1x1x1 ![] bcast_S_S1x64x1x1x1 (cmpf .ogt (cntB (F := F)) (constant S_ .f32 0x00000000#32))) (Host.divf (broadcastInDim S1x64x1x1x1 ![1] bcast_S64_S1x64x1x1x1_1 (Host.reduceAdd (mulf (devB c) (devB c)) (constant S_ .f32 0x00000000#32) reducesTo_S2x64x16x16x16_S64_d0_2_3_4 h_S_)) (broadcastInDim S1x64x1x1x1 ![] bcast_S_S1x64x1x1x1 (cntB (F := F)))) (broadcastInDim S1x64x1x1x1 ![] bcast_S_S1x64x1x1x1 (id (constant S_ .f32 0x7FC00000#32)))

/-- The closing batch norm and the maximum with zero. -/
def finishV (ga be : FVec F S64 .f32) (c : FVec F S2x64x16x16x16 .f32) : FVec F S2x64x4096 .f32 :=
  shapeCast _ (maximumf (addf (mulf (Host.divf (devB c) (broadcastInDim S2x64x16x16x16 ![0, 1, 2, 3, 4] bcast_S1x64x1x1x1_S2x64x16x16x16_0_1_2_3_4 (Host.sqrt (addf (varB c) (broadcastInDim S1x64x1x1x1 ![] bcast_S_S1x64x1x1x1 (constant S_ .f32 0x3727C5AC#32)))))) (spread ga)) (spread be)) (broadcastInDim S2x64x16x16x16 ![] bcast_S_S2x64x16x16x16 (constant S_ .f32 0x00000000#32))) shapeCasts_S2x64x16x16x16_S2x64x4096

/-! ### The reference's named values are these -/

/-- A step's words, rows and attention at the launch contents. -/
abbrev words (V : Valuation τ sig (Elt F)) : IVec S4096x46x1 32 := wordsV (V (Proc.devRef .tc main_arg13))

abbrev crossOf (V : Valuation τ sig (Elt F)) (x : FVec F S4096x2x64 .f32) (e : FVec F S4096x46x2x64 .f32) : FVec F S2x16x16384 .f32 :=
  crossS x e (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7)) (V (Proc.devRef .tc main_arg8))

abbrev stepOf (V : Valuation τ sig (Elt F)) (ga be : FVec F S64 .f32) (h : FVec F S2x64x16x16x16 .f32) : FVec F S2x64x16x16x16 .f32 :=
  stepV (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7)) (V (Proc.devRef .tc main_arg8))
    ga be (V (Proc.devRef .tc main_arg13)) h

variable (V : Valuation τ sig (Elt F))

theorem step0 : res_main_v67 V = stepOf V (row0 (V (Proc.devRef .tc main_arg9))) (row0 (V (Proc.devRef .tc main_arg10))) (V (Proc.devRef .tc main_arg0)) := by
  sl_kernel_rfl

theorem step1 : res_main_v135 V = stepOf V (row1 (V (Proc.devRef .tc main_arg9))) (row1 (V (Proc.devRef .tc main_arg10))) (res_main_v67 V) := by
  sl_kernel_rfl

/-- The result, at the launch contents. -/
def resultV : FVec F S2x64x4096 .f32 :=
  finishV (V (Proc.devRef .tc main_arg11)) (V (Proc.devRef .tc main_arg12))
    (stepOf V (row1 (V (Proc.devRef .tc main_arg9))) (row1 (V (Proc.devRef .tc main_arg10)))
      (stepOf V (row0 (V (Proc.devRef .tc main_arg9))) (row0 (V (Proc.devRef .tc main_arg10))) (V (Proc.devRef .tc main_arg0))))

end Cert.ReferenceIdeal.RVec
-- ==== Proof.RefReads.lean ====
/-
  The reference's array functions read at an index, at the ideal numbers, for neighbour words that are the
  table's.
-/
module
public import proofs.«01_k».proof.Proof.RefVec
public import proofs.«01_k».proof.Proof.Infinite

@[expose] public section

set_option maxRecDepth 16384

noncomputable section

open Idealize.ShloMosaic

namespace Cert.Model

/-- The queries' and the keys' weights and biases, stacked. -/
def catW (t p : Fin 16 → Fin 64 → ℝ) : Fin 64 → Fin 64 → ℝ := fun c k =>
  if h : c.val < 16 then t ⟨c.val, h⟩ k else if h : c.val < 32 then p ⟨c.val - 16, by omega⟩ k else 0

def catB (t p : Fin 16 → ℝ) : Fin 64 → ℝ := fun c =>
  if h : c.val < 16 then t ⟨c.val, h⟩ else if h : c.val < 32 then p ⟨c.val - 16, by omega⟩ else 0

variable (t p : Fin 16 → Fin 64 → ℝ) (bt bp : Fin 16 → ℝ) (h : Act) (b : Fin 2) (n : Fin 4096)

theorem proj_theta (c : Fin 16) : proj (catW t p) (catB bt bp) h b ⟨c.val, by omega⟩ n = ∑ k, t c k * h b k n + bt c := by
  simp [proj, catW, catB]

theorem proj_phi (c : Fin 16) : proj (catW t p) (catB bt bp) h b ⟨16 + c.val, by omega⟩ n = ∑ k, p c k * h b k n + bp c := by
  have h1 : ¬ 16 + c.val < 16 := by omega
  have h2 : 16 + c.val < 32 := by omega
  simp [proj, catW, catB, h2]

end Cert.Model

namespace Cert.ReferenceIdeal.RVec

open Cert.ReferenceIdeal Cert.ReferenceIdeal.Gen Cert.Model Cert.Reals

/-! ### The neighbours' rows -/

theorem rowsV_apply (x : FVec Ideal S2x64x16x16x16 .f32) (h : Act)
    (hx : ∀ b c d r w, x (ix5 b c d r w) = ((h b c (vox d r w) : ℝ) : EReal)) (n : Fin 4096) (b : Fin 2) (c : Fin 64) :
    rowsV x (ix3 n b c) = ((h b c n : ℝ) : EReal) := by
  pointwise [rowsV]
  rw [hx]
  exact congrArg (fun m => ((h b c m : ℝ) : EReal)) (vox_self n)

theorem word_pos : ∀ m : Fin 4096, Scalar.select (IntOp.cmpi .slt (BitVec.ofNat 32 m.val) 0#32)
    (IntOp.addi (BitVec.ofNat 32 m.val) 4096#32) (BitVec.ofNat 32 m.val) = BitVec.ofNat 32 m.val := by decide +kernel

theorem word_in : ∀ m : Fin 4096, IntOp.andi (IntOp.cmpi .sge (BitVec.ofNat 32 m.val) 0#32)
    (IntOp.cmpi .sle (BitVec.ofNat 32 m.val) 4095#32) = 1#1 := by decide +kernel

theorem word_at : ∀ m : Fin 4096, min (BitVec.ofNat 32 m.val).toInt.toNat 4095 = m.val := by decide +kernel

variable (idx : IVec S4096x46 32) (hidx : ∀ n k, idx (ix2 n k) = BitVec.ofNat 32 (nbr n k).val)
include hidx

theorem wordsV_apply (n : Fin 4096) (k : Fin 46) : wordsV idx (ix3 n k 0) = BitVec.ofNat 32 (nbr n k).val := by
  pointwise [wordsV]
  rw [hidx]
  exact word_pos _

theorem maskV_apply (n : Fin 4096) (k : Fin 46) : maskV (wordsV idx) (ix2 n k) = 1#1 := by
  have e := wordsV_apply idx hidx n k
  generalize wordsV idx = w at *
  pointwise [maskV]
  simp only [Finset.univ_unique, Finset.fold_singleton]
  rw [show (default : Fin 1) = 0 from rfl, e, word_in]
  rfl

omit hidx in
theorem gather_apply (x : FVec Ideal S4096x2x64 .f32) (w : IVec S4096x46x1 32) (n : Fin 4096) (k : Fin 46) (b : Fin 2) (c : Fin 64) :
    Host.gather gather_S4096x2x64_S4096x46x1_S4096x46x2x64_23_0_n_n_0_2_1264 x w (ix4 n k b c)
      = x (ix3 ⟨min (w (ix3 n k 0)).toInt.toNat 4095, by omega⟩ b c) := by
  unfold Host.gather
  congr 1
  funext a
  refine Fin.ext ?_
  show GatherDims.start _ _ w a + GatherDims.batchCoord _ _ a + GatherDims.offCoord _ _ a = _
  rw [GatherDims.batchCoord_eq_zero _ _ _ (fun h => by simp [gather_S4096x2x64_S4096x46x1_S4096x46x2x64_23_0_n_n_0_2_1264] at h)]
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S4096x2x64_S4096x46x1_S4096x46x2x64_23_0_n_n_0_2_1264.startIndexMap from
      List.mem_singleton.mpr rfl)]
    have hsi : gather_S4096x2x64_S4096x46x1_S4096x46x2x64_23_0_n_n_0_2_1264.siIdx (ix4 n k b c)
        ⟨List.idxOf (0 : Fin 3) gather_S4096x2x64_S4096x46x1_S4096x46x2x64_23_0_n_n_0_2_1264.startIndexMap,
        List.idxOf_lt_length_iff.2 (List.mem_singleton.mpr rfl)⟩ = ix3 n k 0 := by
      funext b; refine Fin.ext ?_
      match b with
      | ⟨0, _⟩ => rfl
      | ⟨1, _⟩ => rfl
      | ⟨2, _⟩ => rfl
    rw [hsi]
    rfl
  · have h0 : (1 : Fin 3) ∉ gather_S4096x2x64_S4096x46x1_S4096x46x2x64_23_0_n_n_0_2_1264.startIndexMap := by
      simp [gather_S4096x2x64_S4096x46x1_S4096x46x2x64_23_0_n_n_0_2_1264]
    unfold GatherDims.start GatherDims.offCoord
    rw [dif_neg h0, dif_pos ((GatherDims.mem_sKept _ _).mpr ⟨by decide, by decide⟩), Nat.add_zero, Nat.zero_add]
    rfl
  · have h0 : (2 : Fin 3) ∉ gather_S4096x2x64_S4096x46x1_S4096x46x2x64_23_0_n_n_0_2_1264.startIndexMap := by
      simp [gather_S4096x2x64_S4096x46x1_S4096x46x2x64_23_0_n_n_0_2_1264]
    unfold GatherDims.start GatherDims.offCoord
    rw [dif_neg h0, dif_pos ((GatherDims.mem_sKept _ _).mpr ⟨by decide, by decide⟩), Nat.add_zero, Nat.zero_add]
    rfl

theorem takeV_apply (x : FVec Ideal S4096x2x64 .f32) (h : Act) (hx : ∀ n b c, x (ix3 n b c) = ((h b c n : ℝ) : EReal))
    (n : Fin 4096) (k : Fin 46) (b : Fin 2) (c : Fin 64) :
    takeV x (wordsV idx) (ix4 n k b c) = ((h b c (nbr n k) : ℝ) : EReal) := by
  have e : (⟨min (wordsV idx (ix3 n k 0)).toInt.toNat 4095, by omega⟩ : Fin 4096) = nbr n k :=
    Fin.ext (by
      show min (wordsV idx (ix3 n k 0)).toInt.toNat 4095 = _
      rw [wordsV_apply idx hidx]; exact word_at _)
  pointwise [takeV]
  rw [maskV_apply idx hidx, gather_apply, e, hx]
  rfl

omit hidx

/-! ### The attention -/

theorem fold_max (f : Fin 46 → ℝ) : ∃ M : ℝ, Finset.univ.fold max (⊥ : EReal) (fun k => ((f k : ℝ) : EReal)) = ((M : ℝ) : EReal) := by
  have : ∀ s : Finset (Fin 46), s.Nonempty → ∃ M : ℝ, s.fold max (⊥ : EReal) (fun k => ((f k : ℝ) : EReal)) = ((M : ℝ) : EReal) := by
    intro s hs
    induction hs using Finset.Nonempty.cons_induction with
    | singleton a => exact ⟨f a, by simp⟩
    | cons a s ha hs ih =>
      obtain ⟨M, hM⟩ := ih
      exact ⟨max (f a) M, by rw [Finset.fold_cons, hM, coe_max]⟩
  exact this _ Finset.univ_nonempty

theorem ofBits_bot : Ideal.ofBits .f32 0xFF800000#32 = ⊥ := by simp [Ideal.ofBits, Ideal.ieee]

theorem logitV_apply (t : FVec Ideal S4096x2x16 .f32) (p : FVec Ideal S4096x46x2x16 .f32) (b : Fin 2) (n : Fin 4096) (k : Fin 46) :
    logitV t p (ix4 b n 0 k) = ∑ c : Fin 16, t (ix3 n b c) * p (ix4 n k b c) := by
  pointwise [logitV]

theorem thetaV_apply (x : FVec Ideal S4096x2x64 .f32) (w : FVec Ideal S16x64 .f32) (bb : FVec Ideal S16 .f32)
    (b : Fin 2) (n : Fin 4096) (c : Fin 16) :
    thetaV x w bb (ix3 n b c) = ∑ k, x (ix3 n b k) * w (ix2 c k) + bb (ix1 c) := by
  pointwise [thetaV]

theorem phiV_apply (x : FVec Ideal S4096x46x2x64 .f32) (w : FVec Ideal S16x64 .f32) (bb : FVec Ideal S16 .f32)
    (b : Fin 2) (n : Fin 4096) (j : Fin 46) (c : Fin 16) :
    phiV x w bb (ix4 n j b c) = ∑ k, x (ix4 n j b k) * w (ix2 c k) + bb (ix1 c) := by
  pointwise [phiV]

theorem gV_apply (x : FVec Ideal S4096x46x2x64 .f32) (w : FVec Ideal S32x64 .f32) (bb : FVec Ideal S32 .f32)
    (b : Fin 2) (n : Fin 4096) (j : Fin 46) (c : Fin 32) :
    gV x w bb (ix4 n j b c) = ∑ k, x (ix4 n j b k) * w (ix2 c k) + bb (ix1 c) := by
  pointwise [gV]

theorem expV_apply (f : FVec Ideal S2x4096x1x46 .f32) (g : Fin 2 → Fin 4096 → Fin 46 → ℝ)
    (hf : ∀ b n k, f (ix4 b n 0 k) = ((g b n k : ℝ) : EReal)) (b : Fin 2) (n : Fin 4096) :
    ∃ M : ℝ, ∀ k, expV f (ix4 b n 0 k) = ((Real.exp (g b n k - M) : ℝ) : EReal) := by
  obtain ⟨M, hM⟩ := fold_max (g b n)
  refine ⟨M, fun k => ?_⟩
  pointwise [expV]
  simp only [hf, ofBits_bot]
  rw [hM, max_eq_right bot_le, ← EReal.coe_sub, Ideal.exp_coe]

theorem attnV_apply (e : FVec Ideal S2x4096x1x46 .f32) (v : FVec Ideal S4096x46x2x32 .f32) (b : Fin 2) (n : Fin 4096) (o : Fin 32)
    (l : Fin 4096 → ℝ) (g : Fin 4096 → EReal) (M : ℝ)
    (he : ∀ k, e (ix4 b n 0 k) = ((Real.exp (l (nbr n k) - M) : ℝ) : EReal)) (hv : ∀ k, v (ix4 n k b o) = g (nbr n k)) :
    IsAttn l g n (attnV e v (ix4 b n 0 o)) := by
  have hpos : 0 < ∑ k, Real.exp (l (nbr n k) - M) := Finset.sum_pos (fun _ _ => Real.exp_pos _) Finset.univ_nonempty
  pointwise [attnV]
  simp only [he, hv, ← coe_sum, div_real _ _ hpos.ne']
  refine ⟨fun h => ?_, fun ⟨k, hk⟩ => ?_⟩
  · rw [Finset.sum_congr rfl (fun k _ => congrArg _ (not_inf (h k)))]
    simp only [← EReal.coe_mul, ← coe_sum]
    rw [softmax_shift (fun k => l (nbr n k))]
  · exact inf_sum _ _ k (Finset.mem_univ _) (hk.coe_mul (div_pos (Real.exp_pos _) hpos).ne')

theorem crossV_apply (y : FVec Ideal S2x4096x1x32 .f32) (w : FVec Ideal S64x32 .f32) (bb : FVec Ideal S64 .f32)
    (b : Fin 2) (q : Fin 16) (m : Fin 16384) :
    crossV y w bb (ix3 b q m) = crossE (fun c o => w (ix2 c o)) (fun c => bb (ix1 c)) (fun b o n => y (ix4 b n 0 o)) b
      (chan q ⟨m.val / 4096, by omega⟩) ⟨m.val % 4096, by omega⟩ := by
  pointwise [crossV]
  exact congrArg (· + _) (Finset.sum_congr rfl fun o _ => mul_comm _ _)

/-! ### One step's attention -/

theorem crossS_apply (x : FVec Ideal S4096x2x64 .f32) (e : FVec Ideal S4096x46x2x64 .f32) (wg : FVec Ideal S32x64 .f32)
    (bg : FVec Ideal S32 .f32) (wt : FVec Ideal S16x64 .f32) (bt : FVec Ideal S16 .f32) (wp : FVec Ideal S16x64 .f32)
    (bp : FVec Ideal S16 .f32) (wr : FVec Ideal S64x32 .f32) (br : FVec Ideal S64 .f32)
    (h : Act) (T Q : Fin 16 → Fin 64 → ℝ) (Bt Bq : Fin 16 → ℝ)
    (hx : ∀ n b c, x (ix3 n b c) = ((h b c n : ℝ) : EReal))
    (he : ∀ n k b c, e (ix4 n k b c) = ((h b c (nbr n k) : ℝ) : EReal))
    (hwt : ∀ c k, wt (ix2 c k) = ((T c k : ℝ) : EReal)) (hbt : ∀ c, bt (ix1 c) = ((Bt c : ℝ) : EReal))
    (hwp : ∀ c k, wp (ix2 c k) = ((Q c k : ℝ) : EReal)) (hbp : ∀ c, bp (ix1 c) = ((Bq c : ℝ) : EReal)) :
    ∃ y : Fin 2 → Fin 32 → Fin 4096 → EReal,
      (∀ b o n, IsAttn (logit (proj (catW T Q) (catB Bt Bq) h) b n)
        (valE (fun o k => wg (ix2 o k)) (fun o => bg (ix1 o)) h b o) n (y b o n)) ∧
      ∀ b q (m : Fin 16384), crossS x e wg bg wt bt wp bp wr br (ix3 b q m)
        = crossE (fun c o => wr (ix2 c o)) (fun c => br (ix1 c)) y b (chan q ⟨m.val / 4096, by omega⟩) ⟨m.val % 4096, by omega⟩ := by
  refine ⟨_, fun b o n => ?_, fun b q m => crossV_apply _ wr br b q m⟩
  have hl : ∀ b n k, logitV (thetaV x wt bt) (phiV e wp bp) (ix4 b n 0 k)
      = ((logit (proj (catW T Q) (catB Bt Bq) h) b n (nbr n k) : ℝ) : EReal) := fun b n k => by
    rw [logitV_apply]
    simp only [thetaV_apply, phiV_apply, hx, he, hwt, hbt, hwp, hbp, ← EReal.coe_mul, ← coe_sum, ← EReal.coe_add]
    simp only [logit, proj_theta, proj_phi, mul_comm]
  obtain ⟨M, hM⟩ := expV_apply _ _ hl b n
  refine attnV_apply _ _ b n o _ _ M hM (fun k => ?_)
  simp only [gV_apply, he]
  exact congrArg (· + _) (Finset.sum_congr rfl fun k _ => mul_comm _ _)

/-! ### The group norm -/

section group

variable (c : FVec Ideal S2x16x16384 .f32) (C : ActE)
  (hc : ∀ b q (m : Fin 16384), c (ix3 b q m) = C b (chan q ⟨m.val / 4096, by omega⟩) ⟨m.val % 4096, by omega⟩)
include hc

theorem meanG_apply (b : Fin 2) (q : Fin 16) :
    meanG c (ix3 b q 0) = Ideal.div (∑ j, ∑ n, C b (chan q j) n) ((16384 : ℝ) : EReal) := by
  pointwise [meanG]
  simp only [hc]
  rw [ofBits_16384, sum_group (fun j n => C b (chan q j) n)]

omit hc in
theorem cnt_zero : (FloatOps.sitofp (F := Ideal) .f32 (0#32) : EReal) = 0 := by
  show (((0#32 : BitVec 32).toInt : ℝ) : EReal) = 0
  simp

theorem varG_apply (b : Fin 2) (q : Fin 16) : varG c (ix3 b q 0) = Ideal.div (∑ j, ∑ n,
      (C b (chan q j) n - meanG c (ix3 b q 0)) * (C b (chan q j) n - meanG c (ix3 b q 0))) ((16384 : ℝ) : EReal) := by
  have hd : ∀ m : Fin 16384, devG c (ix3 b q m)
      = C b (chan q ⟨m.val / 4096, by omega⟩) ⟨m.val % 4096, by omega⟩ - meanG c (ix3 b q 0) := fun m => by
    rw [← hc]
    pointwise [devG]
  generalize meanG c (ix3 b q 0) = M at *
  pointwise [varG, cntG]
  simp only [hd]
  rw [cnt_zero, ofBits_16384, sub_zero, if_pos (by exact_mod_cast (by norm_num : (0 : ℝ) < 16384)),
    sum_group (fun j n => (C b (chan q j) n - M) * (C b (chan q j) n - M))]

theorem groupV_apply (b : Fin 2) (ch : Fin 64) (d r w : Fin 16) :
    shapeCast S2x64x16x16x16 (groupV c) shapeCasts_S2x16x16384_S2x64x16x16x16 (ix5 b ch d r w)
      = ((gnormE C b ch (vox d r w) : ℝ) : EReal) := by
  have hm := meanG_apply c C hc b (grp ch)
  have hv := varG_apply c C hc b (grp ch)
  have hx : shapeCast S2x64x16x16x16 (groupV c) shapeCasts_S2x16x16384_S2x64x16x16x16 (ix5 b ch d r w)
      = Ideal.div (C b ch (vox d r w) - meanG c (ix3 b (grp ch) 0))
        (Ideal.sqrt (varG c (ix3 b (grp ch) 0) + ((eps : ℝ) : EReal))) := by
    pointwise [groupV, devG]
    change Ideal.div (_ - meanG c (ix3 b (grp ch) 0)) (Ideal.sqrt (varG c (ix3 b (grp ch) 0) + _)) = _
    rw [hc, ofBits_eps]
    congr 3
    · apply Fin.ext; simp only [chan]; omega
    · apply Fin.ext; simp only [vox]; omega
  rw [hx, hv, hm]
  unfold gnormE
  by_cases h : ∀ j m, ¬ Inf (C b (chan (grp ch) j) m)
  · rw [if_pos h]
    have ht : ∀ j m, C b (chan (grp ch) j) m = ((toR C b (chan (grp ch) j) m : ℝ) : EReal) := fun j m => not_inf (h j m)
    have h0 := ht ⟨ch.val % 4, by omega⟩ (vox d r w)
    rw [chan_self] at h0
    simp only [ht, h0, ← coe_sum]
    rw [div_real _ _ (by norm_num)]
    simp only [← EReal.coe_sub, ← EReal.coe_mul, ← coe_sum]
    rw [div_real _ _ (by norm_num), ← EReal.coe_add]
    have hn := gvar_nonneg (toR C) b (grp ch)
    unfold gvar gmean at *
    rw [sqrt_real _ (add_nonneg hn eps_pos.le), div_real _ _ (sqrt_ne _ hn)]
  · rw [if_neg h]
    push Not at h
    obtain ⟨j', m', hi⟩ := h
    have hs : Inf (∑ j, ∑ n, C b (chan (grp ch) j) n) :=
      inf_sum _ _ j' (Finset.mem_univ _) (inf_sum _ _ m' (Finset.mem_univ _) hi)
    have hM := hs.div (r := 16384) (by norm_num)
    simp only [(hM.sub_left _).square]
    rw [sum_top _ _ 0 (Finset.mem_univ _) (sum_top _ _ 0 (Finset.mem_univ _) rfl (fun _ _ => le_top))
      (fun _ _ => Finset.sum_nonneg fun _ _ => le_top), top_div (by norm_num), EReal.top_add_coe, Ideal.sqrt_top, div_top]
    simp

end group

/-- The step: what it adds is the group norm of the projected attention, scaled and shifted. -/
theorem stepV_apply (wg : FVec Ideal S32x64 .f32)
    (bg : FVec Ideal S32 .f32) (wt : FVec Ideal S16x64 .f32) (bt : FVec Ideal S16 .f32) (wp : FVec Ideal S16x64 .f32)
    (bp : FVec Ideal S16 .f32) (wr : FVec Ideal S64x32 .f32) (br ga be : FVec Ideal S64 .f32)
    (idx : IVec S4096x46 32) (x : FVec Ideal S2x64x16x16x16 .f32)
    (h : Act) (T Q : Fin 16 → Fin 64 → ℝ) (Bt Bq : Fin 16 → ℝ)
    (hidx : ∀ n k, idx (ix2 n k) = BitVec.ofNat 32 (nbr n k).val)
    (hx : ∀ b c d r w, x (ix5 b c d r w) = ((h b c (vox d r w) : ℝ) : EReal))
    (hwt : ∀ c k, wt (ix2 c k) = ((T c k : ℝ) : EReal)) (hbt : ∀ c, bt (ix1 c) = ((Bt c : ℝ) : EReal))
    (hwp : ∀ c k, wp (ix2 c k) = ((Q c k : ℝ) : EReal)) (hbp : ∀ c, bp (ix1 c) = ((Bq c : ℝ) : EReal)) :
    ∃ y : Fin 2 → Fin 32 → Fin 4096 → EReal,
      (∀ b o n, IsAttn (logit (proj (catW T Q) (catB Bt Bq) h) b n)
        (valE (fun o k => wg (ix2 o k)) (fun o => bg (ix1 o)) h b o) n (y b o n)) ∧
      ∀ b c d r w, stepV wg bg wt bt wp bp wr br ga be idx x (ix5 b c d r w)
        = ((h b c (vox d r w) : ℝ) : EReal)
          + (((gnormE (crossE (fun c o => wr (ix2 c o)) (fun c => br (ix1 c)) y) b c (vox d r w) : ℝ) : EReal)
            * ga (ix1 c) + be (ix1 c)) := by
  have hr := rowsV_apply x h hx
  obtain ⟨y, hy, hC⟩ := crossS_apply (rowsV x) (takeV (rowsV x) (wordsV idx)) wg bg wt bt wp bp wr br h T Q Bt Bq hr
    (takeV_apply idx hidx _ h hr) hwt hbt hwp hbp
  refine ⟨y, hy, fun b c d r w => ?_⟩
  have hN := groupV_apply _ _ hC b c d r w
  unfold stepV spread
  generalize shapeCast S2x64x16x16x16 (groupV (crossS (rowsV x) (takeV (rowsV x) (wordsV idx)) wg bg wt bt wp bp wr br))
    shapeCasts_S2x16x16384_S2x64x16x16x16 = N at *
  pointwise
  rw [hN, hx]

theorem row0_apply (g : FVec Ideal S2x64 .f32) (c : Fin 64) : row0 g (ix1 c) = g (ix2 0 c) := by
  pointwise [row0]

theorem row1_apply (g : FVec Ideal S2x64 .f32) (c : Fin 64) : row1 g (ix1 c) = g (ix2 1 c) := by
  pointwise [row1]

/-! ### The closing batch norm -/

section batch

variable (x : FVec Ideal S2x64x16x16x16 .f32) (C : ActE) (hx : ∀ b c d r w, x (ix5 b c d r w) = C b c (vox d r w))
include hx

theorem sumB_apply (c : Fin 64) :
    Ideal.hostReduceAdd reducesTo_S2x64x16x16x16_S64_d0_2_3_4 x 0 (ix1 c) = ∑ b, ∑ n, C b c n := by
  refine (zero_add _).trans ((sum_batch5 reducesTo_S2x64x16x16x16_S64_d0_2_3_4 x c).trans ?_)
  simp only [hx]
  exact Finset.sum_congr rfl fun b _ => sum_vox (fun n => C b c n)

theorem meanB_apply (c : Fin 64) : meanB x (ix5 0 c 0 0 0) = Ideal.div (∑ b, ∑ n, C b c n) ((8192 : ℝ) : EReal) := by
  pointwise [meanB]
  rw [sumB_apply x C hx, ofBits_8192]

theorem devB_apply (b : Fin 2) (c : Fin 64) (d r w : Fin 16) :
    devB x (ix5 b c d r w) = C b c (vox d r w) - meanB x (ix5 0 c 0 0 0) := by
  rw [← hx]
  pointwise [devB]

theorem varB_apply (c : Fin 64) : varB x (ix5 0 c 0 0 0) = Ideal.div (∑ b, ∑ n,
      (C b c n - meanB x (ix5 0 c 0 0 0)) * (C b c n - meanB x (ix5 0 c 0 0 0))) ((8192 : ℝ) : EReal) := by
  have hs := sumB_apply (mulf (devB x) (devB x))
    (fun b c n => (C b c n - meanB x (ix5 0 c 0 0 0)) * (C b c n - meanB x (ix5 0 c 0 0 0)))
    (fun b c d r w => by rw [← devB_apply x C hx]; rfl) c
  generalize meanB x = M at *
  pointwise [varB, cntB]
  rw [hs, cnt_zero, ofBits_8192, sub_zero, if_pos (by exact_mod_cast (by norm_num : (0 : ℝ) < 8192))]

theorem finishV_apply (ga be : FVec Ideal S64 .f32) (b : Fin 2) (c : Fin 64) (n : Fin 4096) :
    finishV ga be x (ix3 b c n) = max (((bnormE C b c n : ℝ) : EReal) * ga (ix1 c) + be (ix1 c)) 0 := by
  have hm := meanB_apply x C hx c
  have hv := varB_apply x C hx c
  pointwise [finishV, devB, spread]
  have e : vox ⟨n.val / 256, by omega⟩ ⟨n.val / 16 % 16, by omega⟩ ⟨n.val % 16, by omega⟩ = n := vox_self n
  rw [hv, hm, hx, e, ofBits_eps]
  unfold bnormE
  by_cases h : ∀ b' m, ¬ Inf (C b' c m)
  · rw [if_pos h]
    have ht : ∀ b' m, C b' c m = ((toR C b' c m : ℝ) : EReal) := fun j m => not_inf (h j m)
    simp only [ht, ← coe_sum]
    rw [div_real _ _ (by norm_num)]
    simp only [← EReal.coe_sub, ← EReal.coe_mul, ← coe_sum]
    rw [div_real _ _ (by norm_num), ← EReal.coe_add]
    have hn := bvar_nonneg (toR C) c
    unfold bnorm
    unfold bvar bmean at *
    rw [sqrt_real _ (add_nonneg hn eps_pos.le), div_real _ _ (sqrt_ne _ hn)]
  · rw [if_neg h]
    push Not at h
    obtain ⟨j', m', hi⟩ := h
    have hs : Inf (∑ b, ∑ n, C b c n) :=
      inf_sum _ _ j' (Finset.mem_univ _) (inf_sum _ _ m' (Finset.mem_univ _) hi)
    have hM := hs.div (r := 8192) (by norm_num)
    simp only [(hM.sub_left _).square]
    rw [sum_top _ _ 0 (Finset.mem_univ _) (sum_top _ _ 0 (Finset.mem_univ _) rfl (fun _ _ => le_top))
      (fun _ _ => Finset.sum_nonneg fun _ _ => le_top), top_div (by norm_num), EReal.top_add_coe, Ideal.sqrt_top, div_top]
    simp

end batch

end Cert.ReferenceIdeal.RVec
-- ==== Proof.Out.lean ====
module
public import proofs.«01_k».proof.Proof.Gen.KernelIdeal.Frame
public import proofs.«01_k».proof.Proof.Vec
public import Idealize.ShloMosaic.Lib.Pipeline.Value
public import Idealize.ShloMosaic.Lib.Tactic
@[expose] public section
set_option maxRecDepth 16384
noncomputable section
open Idealize.ShloMosaic Idealize.ShloMosaic.TcCoe
namespace Cert.KernelIdeal.Vec
open Cert.KernelIdeal Cert.KernelIdeal.Gen
variable {F : FTy → Type} [FloatOps F]
theorem hz3 : (![0, 0, 0] : Fin 3 → Nat) = fun _ => 0 := funext fun a => by fin_cases a <;> rfl

/-- A buffer read whole. -/
abbrev L {S : Shape} {e : EltTy} (a : Memref sig .tc .vmem S e) (h : a.IsWhole) (x : Vec F S e) (r : Rect S) : r.shape.Idx → Elt F e :=
  View.readAt (Elt F) a.view r.toLoadRect (h.unread x)

theorem word_eq (c : Dev nD) (arg0 : Memref sig .tc .vmem S2x64x4096 .f32) (harg0 : arg0.IsWhole) (arg1 : Memref sig .tc .vmem S64x64 .f32) (harg1 : arg1.IsWhole) (arg2 : Memref sig .tc .vmem S64x1 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S2x64x1 .f32) (harg5 : arg5.IsWhole) (arg6 : Memref sig .tc .vmem S2x64x1 .f32) (harg6 : arg6.IsWhole) (arg7 : Memref sig .tc .vmem S64x1 .f32) (harg7 : arg7.IsWhole) (arg8 : Memref sig .tc .vmem S64x1 .f32) (harg8 : arg8.IsWhole)
    (x0 : Vec F S2x64x4096 .f32) (x1 : Vec F S64x64 .f32) (x2 : Vec F S64x1 .f32) (x3 : Vec F S64x32 .f32) (x4 : Vec F S64x1 .f32) (x5 : Vec F S2x64x1 .f32) (x6 : Vec F S2x64x1 .f32) (x7 : Vec F S64x1 .f32) (x8 : Vec F S64x1 .f32) :
    kernelRun0_A.sl.r_374 c arg0 harg0 arg1 harg1 arg2 harg2 arg3 harg3 arg4 harg4 arg5 harg5 arg6 harg6 arg7 harg7 arg8 harg8 x0 x1 x2 x3 x4 x5 x6 x7 x8
    = finishV (shapeCast S64x1 (L arg7 harg7 x7 (Rect.unit ![0, 0] S64x1.size inb_S64x1_S64x1_0_0)) shapeCasts_S64x1_S64x1) (shapeCast S64x1 (L arg8 harg8 x8 (Rect.unit ![0, 0] S64x1.size inb_S64x1_S64x1_0_0)) shapeCasts_S64x1_S64x1)
      (stepV (k0_pay2 (L arg1 harg1 x1 (Rect.unit ![0, 0] S64x64.size inb_S64x64_S64x64_0_0))) (k0_pay3 (L arg2 harg2 x2 (Rect.unit ![0, 0] S64x1.size inb_S64x1_S64x1_0_0)))
        (L arg3 harg3 x3 (Rect.unit ![0, 0] S64x32.size inb_S64x32_S64x32_0_0)) (k0_pay4 (L arg4 harg4 x4 (Rect.unit ![0, 0] S64x1.size inb_S64x1_S64x1_0_0)))
        (shapeCast S64x1 (L arg5 harg5 x5 (Rect.unit ![1, 0, 0] S1x64x1.size inb_S2x64x1_S1x64x1_1_0_0)) shapeCasts_S1x64x1_S64x1)
        (shapeCast S64x1 (L arg6 harg6 x6 (Rect.unit ![1, 0, 0] S1x64x1.size inb_S2x64x1_S1x64x1_1_0_0)) shapeCasts_S1x64x1_S64x1)
       (stepV (k0_pay2 (L arg1 harg1 x1 (Rect.unit ![0, 0] S64x64.size inb_S64x64_S64x64_0_0))) (k0_pay3 (L arg2 harg2 x2 (Rect.unit ![0, 0] S64x1.size inb_S64x1_S64x1_0_0)))
        (L arg3 harg3 x3 (Rect.unit ![0, 0] S64x32.size inb_S64x32_S64x32_0_0)) (k0_pay4 (L arg4 harg4 x4 (Rect.unit ![0, 0] S64x1.size inb_S64x1_S64x1_0_0)))
        (shapeCast S64x1 (L arg5 harg5 x5 (Rect.unit ![0, 0, 0] S1x64x1.size inb_S2x64x1_S1x64x1_0_0_0)) shapeCasts_S1x64x1_S64x1)
        (shapeCast S64x1 (L arg6 harg6 x6 (Rect.unit ![0, 0, 0] S1x64x1.size inb_S2x64x1_S1x64x1_0_0_0)) shapeCasts_S1x64x1_S64x1)
        (k0_pay1 (L arg0 harg0 x0 (Rect.unit ![0, 0, 0] S2x64x4096.size inb_S2x64x4096_S2x64x4096_0_0_0))))) := by
  sl_kernel_rfl

/-- Row 0 and row 1 of a [2, 64, 1] parameter, as columns. -/
def row0 (x : Vec F S2x64x1 .f32) : FVec F S64x1 .f32 :=
  shapeCast S64x1 (View.ld x (Rect.unit ![0, 0, 0] S1x64x1.size inb_S2x64x1_S1x64x1_0_0_0) : FVec F S1x64x1 .f32) shapeCasts_S1x64x1_S64x1
def row1 (x : Vec F S2x64x1 .f32) : FVec F S64x1 .f32 :=
  shapeCast S64x1 (View.ld x (Rect.unit ![1, 0, 0] S1x64x1.size inb_S2x64x1_S1x64x1_1_0_0) : FVec F S1x64x1 .f32) shapeCasts_S1x64x1_S64x1

theorem hz2 : (![0, 0] : Fin 2 → Nat) = fun _ => 0 := funext fun a => by fin_cases a <;> rfl

theorem canon_whole (r : Rect S2x64x4096) (hr : ∃ off inb, off = (fun _ => 0) ∧ r = Rect.unit (s := S2x64x4096) off S2x64x4096.size inb)
    (w : r.shape.Idx → Elt F .f32) (w' : S2x64x4096.Idx → Elt F .f32) (hw : HEq w w') :
    View.canon (Val := Elt F) (s := S2x64x4096) (e := .f32) [⟨r, w⟩] = w' := by
  obtain ⟨off, inb, h0, rfl⟩ := hr
  obtain rfl := eq_of_heq hw
  exact View.canon_unit_zero h0 inb w

/-- What the kernel's body leaves in its output: two steps, then the batch normalization. -/
theorem out_eq (c : Dev nD) (arg0 : Memref sig .tc .vmem S2x64x4096 .f32) (harg0 : arg0.IsWhole) (arg1 : Memref sig .tc .vmem S64x64 .f32) (harg1 : arg1.IsWhole) (arg2 : Memref sig .tc .vmem S64x1 .f32) (harg2 : arg2.IsWhole) (arg3 : Memref sig .tc .vmem S64x32 .f32) (harg3 : arg3.IsWhole) (arg4 : Memref sig .tc .vmem S64x1 .f32) (harg4 : arg4.IsWhole) (arg5 : Memref sig .tc .vmem S2x64x1 .f32) (harg5 : arg5.IsWhole) (arg6 : Memref sig .tc .vmem S2x64x1 .f32) (harg6 : arg6.IsWhole) (arg7 : Memref sig .tc .vmem S64x1 .f32) (harg7 : arg7.IsWhole) (arg8 : Memref sig .tc .vmem S64x1 .f32) (harg8 : arg8.IsWhole) (arg9 : Memref sig .tc .vmem S2x64x4096 .f32) (harg9 : arg9.IsWhole)
    (x0 : Vec F S2x64x4096 .f32) (x1 : Vec F S64x64 .f32) (x2 : Vec F S64x1 .f32) (x3 : Vec F S64x32 .f32) (x4 : Vec F S64x1 .f32) (x5 : Vec F S2x64x1 .f32) (x6 : Vec F S2x64x1 .f32) (x7 : Vec F S64x1 .f32) (x8 : Vec F S64x1 .f32) :
    out0_A_9 c arg0 harg0 arg1 harg1 arg2 harg2 arg3 harg3 arg4 harg4 arg5 harg5 arg6 harg6 arg7 harg7 arg8 harg8 arg9 harg9 x0 x1 x2 x3 x4 x5 x6 x7 x8 = finishV x7 x8 (stepV x1 x2 x3 x4 (row1 x5) (row1 x6) (stepV x1 x2 x3 x4 (row0 x5) (row0 x6) x0)) := by
  unfold out0_A_9
  rw [View.read_writes_eq_canon _ _ _ (cover0_A_9 c arg0 harg0 arg1 harg1 arg2 harg2 arg3 harg3 arg4 harg4 arg5 harg5 arg6 harg6 arg7 harg7 arg8 harg8 arg9 harg9 x0 x1 x2 x3 x4 x5 x6 x7 x8)]
  unfold kernelRun0_A
  dsimp only
  rw [word_eq]
  have e7 : shapeCast S64x1 x7 shapeCasts_S64x1_S64x1 = x7 := shapeCast_self ..
  have e8 : shapeCast S64x1 x8 shapeCasts_S64x1_S64x1 = x8 := shapeCast_self ..
  unfold L k0_pay1 k0_pay2 k0_pay3 k0_pay4
  simp only [View.readAt_eq_ld, harg0.read_unread, harg1.read_unread, harg2.read_unread, harg3.read_unread, harg4.read_unread, harg5.read_unread, harg6.read_unread, harg7.read_unread, harg8.read_unread,
    View.ld_unit_zero (S := S2x64x4096) hz3, View.ld_unit_zero (S := S64x64) hz2, View.ld_unit_zero (S := S64x1) hz2, View.ld_unit_zero (S := S64x32) hz2, shapeCast_self]
  rw [e7, e8]
  refine canon_whole _ ⟨fun a => (![0, 0, 0] : Fin 3 → Nat) a + (![0, 0, 0] : Fin 3 → Nat) a, by decide, funext fun a => by fin_cases a <;> rfl, rfl⟩ _ _ ?_
  unfold row0 row1
  exact HEq.rfl

end Cert.KernelIdeal.Vec
-- ==== Proof.Entry.lean ====
/-
  What the kernel's one grid point finds in its windows, and what the result array holds after the run.
-/
module
public import proofs.«01_k».proof.Proof.Gen.KernelIdeal.Value
public import proofs.«01_k».proof.Proof.Out
public import Idealize.ShloMosaic.Lib.Claim
public import Idealize.ShloMosaic.Lib.Pointwise

@[expose] public section

set_option maxRecDepth 16384

noncomputable section

namespace Cert.KernelIdeal.Entry

open Cert.KernelIdeal Cert.KernelIdeal.Gen Cert.KernelIdeal.Vec Idealize.ShloMosaic Idealize.ShloMosaic.TcCoe Idealize.SL.Sem

variable {F : FTy → Type} [FloatOps F]
variable (m : (ℓ : Loc nD τ sig) → Buf (Elt F) ℓ)

/-! ### What the host hands over -/

theorem V0 (c : Dev nD) : V m c main_v0 = shapeCast S2x64x4096 (m ((c : Thread nD τ).loc main_arg0) : Vec F S2x64x16x16x16 .f32) shapeCasts_S2x64x16x16x16_S2x64x4096 := by
  entry_read
  rfl

theorem V1 (c : Dev nD) : V m c main_v1 = concatenate S64x64 0 [⟨S16x64, (m ((c : Thread nD τ).loc main_arg3) : Vec F S16x64 .f32)⟩, ⟨S16x64, (m ((c : Thread nD τ).loc main_arg5) : Vec F S16x64 .f32)⟩, ⟨S32x64, (m ((c : Thread nD τ).loc main_arg1) : Vec F S32x64 .f32)⟩] concatenates_S16x64_S16x64_S32x64_S64x64_d0 := by
  entry_read
  rfl

theorem V3 (c : Dev nD) : V m c main_v3 = shapeCast S64x1 (concatenate S64 0 [⟨S16, (m ((c : Thread nD τ).loc main_arg4) : Vec F S16 .f32)⟩, ⟨S16, (m ((c : Thread nD τ).loc main_arg6) : Vec F S16 .f32)⟩, ⟨S32, (m ((c : Thread nD τ).loc main_arg2) : Vec F S32 .f32)⟩] concatenates_S16_S16_S32_S64_d0) shapeCasts_S64_S64x1 := by
  entry_read
  rfl

theorem V4 (c : Dev nD) : V m c main_v4 = shapeCast S64x1 (m ((c : Thread nD τ).loc main_arg8) : Vec F S64 .f32) shapeCasts_S64_S64x1 := by
  entry_read
  rfl

theorem V5 (c : Dev nD) : V m c main_v5 = shapeCast S2x64x1 (m ((c : Thread nD τ).loc main_arg9) : Vec F S2x64 .f32) shapeCasts_S2x64_S2x64x1 := by
  entry_read
  rfl

theorem V6 (c : Dev nD) : V m c main_v6 = shapeCast S2x64x1 (m ((c : Thread nD τ).loc main_arg10) : Vec F S2x64 .f32) shapeCasts_S2x64_S2x64x1 := by
  entry_read
  rfl

theorem V7 (c : Dev nD) : V m c main_v7 = shapeCast S64x1 (m ((c : Thread nD τ).loc main_arg11) : Vec F S64 .f32) shapeCasts_S64_S64x1 := by
  entry_read
  rfl

theorem V8 (c : Dev nD) : V m c main_v8 = shapeCast S64x1 (m ((c : Thread nD τ).loc main_arg12) : Vec F S64 .f32) shapeCasts_S64_S64x1 := by
  entry_read
  rfl

/-! ### The windows hold the whole operands -/

theorem I0 (c : Dev nD) (t : Fin cfg0.N) : (iblk m c 0 t : Vec F S2x64x4096 .f32) = V m c main_v0 := by
  obtain rfl : t = t0_0 := fin_N0 t
  have hz : (fun a => win0_0.index t0_0 a * main_v0.ty.shape.size a) = fun _ => 0 := funext fun a => by fin_cases a <;> decide
  exact Memref.read_access_unit_zero (Elt F) main_v0 hz (fun a => by rw [congrFun hz a]; simp) (V m c main_v0)

theorem I1 (c : Dev nD) (t : Fin cfg0.N) : (iblk m c 1 t : Vec F S64x64 .f32) = V m c main_v1 := by
  obtain rfl : t = t0_0 := fin_N0 t
  have hz : (fun a => win0_1.index t0_0 a * main_v1.ty.shape.size a) = fun _ => 0 := funext fun a => by fin_cases a <;> decide
  exact Memref.read_access_unit_zero (Elt F) main_v1 hz (fun a => by rw [congrFun hz a]; simp) (V m c main_v1)

theorem I2 (c : Dev nD) (t : Fin cfg0.N) : (iblk m c 2 t : Vec F S64x1 .f32) = V m c main_v3 := by
  obtain rfl : t = t0_0 := fin_N0 t
  have hz : (fun a => win0_2.index t0_0 a * main_v3.ty.shape.size a) = fun _ => 0 := funext fun a => by fin_cases a <;> decide
  exact Memref.read_access_unit_zero (Elt F) main_v3 hz (fun a => by rw [congrFun hz a]; simp) (V m c main_v3)

theorem I3 (c : Dev nD) (t : Fin cfg0.N) : (iblk m c 3 t : Vec F S64x32 .f32) = V m c main_arg7 := by
  obtain rfl : t = t0_0 := fin_N0 t
  have hz : (fun a => win0_3.index t0_0 a * main_arg7.ty.shape.size a) = fun _ => 0 := funext fun a => by fin_cases a <;> decide
  exact Memref.read_access_unit_zero (Elt F) main_arg7 hz (fun a => by rw [congrFun hz a]; simp) (V m c main_arg7)

theorem I4 (c : Dev nD) (t : Fin cfg0.N) : (iblk m c 4 t : Vec F S64x1 .f32) = V m c main_v4 := by
  obtain rfl : t = t0_0 := fin_N0 t
  have hz : (fun a => win0_4.index t0_0 a * main_v4.ty.shape.size a) = fun _ => 0 := funext fun a => by fin_cases a <;> decide
  exact Memref.read_access_unit_zero (Elt F) main_v4 hz (fun a => by rw [congrFun hz a]; simp) (V m c main_v4)

theorem I5 (c : Dev nD) (t : Fin cfg0.N) : (iblk m c 5 t : Vec F S2x64x1 .f32) = V m c main_v5 := by
  obtain rfl : t = t0_0 := fin_N0 t
  have hz : (fun a => win0_5.index t0_0 a * main_v5.ty.shape.size a) = fun _ => 0 := funext fun a => by fin_cases a <;> decide
  exact Memref.read_access_unit_zero (Elt F) main_v5 hz (fun a => by rw [congrFun hz a]; simp) (V m c main_v5)

theorem I6 (c : Dev nD) (t : Fin cfg0.N) : (iblk m c 6 t : Vec F S2x64x1 .f32) = V m c main_v6 := by
  obtain rfl : t = t0_0 := fin_N0 t
  have hz : (fun a => win0_6.index t0_0 a * main_v6.ty.shape.size a) = fun _ => 0 := funext fun a => by fin_cases a <;> decide
  exact Memref.read_access_unit_zero (Elt F) main_v6 hz (fun a => by rw [congrFun hz a]; simp) (V m c main_v6)

theorem I7 (c : Dev nD) (t : Fin cfg0.N) : (iblk m c 7 t : Vec F S64x1 .f32) = V m c main_v7 := by
  obtain rfl : t = t0_0 := fin_N0 t
  have hz : (fun a => win0_7.index t0_0 a * main_v7.ty.shape.size a) = fun _ => 0 := funext fun a => by fin_cases a <;> decide
  exact Memref.read_access_unit_zero (Elt F) main_v7 hz (fun a => by rw [congrFun hz a]; simp) (V m c main_v7)

theorem I8 (c : Dev nD) (t : Fin cfg0.N) : (iblk m c 8 t : Vec F S64x1 .f32) = V m c main_v8 := by
  obtain rfl : t = t0_0 := fin_N0 t
  have hz : (fun a => win0_8.index t0_0 a * main_v8.ty.shape.size a) = fun _ => 0 := funext fun a => by fin_cases a <;> decide
  exact Memref.read_access_unit_zero (Elt F) main_v8 hz (fun a => by rw [congrFun hz a]; simp) (V m c main_v8)

/-! ### The result array -/

theorem flushed_eq (c : Dev nD) (R : Vec F S2x64x4096 .f32) (hR : outsAt0 m c t0_0 = R) (t : Fin cfg0.N) :
    (dats m 0 c).flushed 9 t = ((cfg0.win 9).blk t).view.read (Elt F) (R : Buf (Elt F) ((c : Thread nD τ).loc main_v9)) := by
  obtain rfl : t = t0_0 := fin_N0 t
  rw [Value.flushed9, hR]
  have hz : (fun a => win0_9.index t0_0 a * main_v9.ty.shape.size a) = fun _ => 0 := funext fun a => by fin_cases a <;> decide
  exact (Memref.read_access_unit_zero (Elt F) main_v9 hz (fun a => by rw [congrFun hz a]; simp) R).symm

/-- The grid's one point writes the whole result array. -/
theorem final (c : Dev nD) (R : Vec F S2x64x4096 .f32) (hR : outsAt0 m c t0_0 = R) :
    (dats m 0 c).arrAt 9 cfg0.N = (R : Buf (Elt F) ((c : Thread nD τ).loc main_v9)) :=
  (dats m 0 c).arrAt_eq_of_cover 9 R (fun t _ => flushed_eq m c R hR t) fun i =>
    ⟨t0_0, flush0_9 t0_0, by
      show i ∈ ((View.whole main_v9).slice (win0_9.rect t0_0)).set
      rw [View.set_slice_whole, Rect.mem_set_unit]
      intro a
      have h0 : (i 0 : Nat) < 2 := (i 0).isLt
      have h1 : (i 1 : Nat) < 64 := (i 1).isLt
      have h2 : (i 2 : Nat) < 4096 := (i 2).isLt
      match a with
      | ⟨0, _⟩ => show win0_9.index t0_0 0 * win0_9.size 0 ≤ (i 0 : Nat) ∧ (i 0 : Nat) < win0_9.index t0_0 0 * win0_9.size 0 + win0_9.xsize (grid0.coords t0_0) 0
                  rw [show win0_9.index t0_0 0 * win0_9.size 0 = 0 from by decide +kernel, show win0_9.xsize (grid0.coords t0_0) 0 = 2 from by decide +kernel]; omega
      | ⟨1, _⟩ => show win0_9.index t0_0 1 * win0_9.size 1 ≤ (i 1 : Nat) ∧ (i 1 : Nat) < win0_9.index t0_0 1 * win0_9.size 1 + win0_9.xsize (grid0.coords t0_0) 1
                  rw [show win0_9.index t0_0 1 * win0_9.size 1 = 0 from by decide +kernel, show win0_9.xsize (grid0.coords t0_0) 1 = 64 from by decide +kernel]; omega
      | ⟨2, _⟩ => show win0_9.index t0_0 2 * win0_9.size 2 ≤ (i 2 : Nat) ∧ (i 2 : Nat) < win0_9.index t0_0 2 * win0_9.size 2 + win0_9.xsize (grid0.coords t0_0) 2
                  rw [show win0_9.index t0_0 2 * win0_9.size 2 = 0 from by decide +kernel, show win0_9.xsize (grid0.coords t0_0) 2 = 4096 from by decide +kernel]; omega⟩

/-- The kernel's result in terms of its operands. -/
abbrev kernelV (x : Vec F S2x64x4096 .f32) (w : Vec F S64x64 .f32) (b : Vec F S64x1 .f32) (wr : Vec F S64x32 .f32) (br : Vec F S64x1 .f32)
    (ga be : Vec F S2x64x1 .f32) (bga bbe : Vec F S64x1 .f32) : Vec F S2x64x4096 .f32 :=
  finishV bga bbe (stepV w b wr br (row1 ga) (row1 be) (stepV w b wr br (row0 ga) (row0 be) x))

theorem result_eq (c : Dev nD) : (dats m 0 c).arrAt 9 cfg0.N
    = (kernelV (V m c main_v0) (V m c main_v1) (V m c main_v3) (V m c main_arg7) (V m c main_v4) (V m c main_v5) (V m c main_v6)
        (V m c main_v7) (V m c main_v8) : Buf (Elt F) ((c : Thread nD τ).loc main_v9)) := by
  refine final m c _ ?_
  simp only [outsAt0]
  rw [out_eq, I0, I1, I2, I3, I4, I5, I6, I7, I8]

end Cert.KernelIdeal.Entry
-- ==== Proof.Meet.lean ====
/-
  The two results are one array: two steps that add the same group norms, and the same last normalisation. The input,
  the query and key weights and the first step's gain and offset are real; the other weights may be infinite.
-/
module
public import proofs.«01_k».proof.Proof.Steps
public import proofs.«01_k».proof.Proof.RefReads
public import proofs.«01_k».proof.Proof.Entry

@[expose] public section

set_option maxRecDepth 16384

noncomputable section

open Idealize.ShloMosaic

namespace Cert.KernelIdeal.Entry

open Cert.KernelIdeal Cert.KernelIdeal.Gen Cert.Model Cert.Reals

/-! ### The operands, read at an index -/

theorem row0_apply (g : FVec Ideal S2x64 .f32) (c : Fin 64) :
    Vec.row0 (shapeCast S2x64x1 g shapeCasts_S2x64_S2x64x1) (ix2 c 0) = g (ix2 0 c) := by
  pointwise [Vec.row0]

theorem row1_apply (g : FVec Ideal S2x64 .f32) (c : Fin 64) :
    Vec.row1 (shapeCast S2x64x1 g shapeCasts_S2x64_S2x64x1) (ix2 c 0) = g (ix2 1 c) := by
  pointwise [Vec.row1]

theorem column_apply (g : FVec Ideal S64 .f32) (c : Fin 64) : shapeCast S64x1 g shapeCasts_S64_S64x1 (ix2 c 0) = g (ix1 c) := by
  pointwise

theorem flat_apply (x : FVec Ideal S2x64x16x16x16 .f32) (b : Fin 2) (c : Fin 64) (n : Fin 4096) :
    shapeCast S2x64x4096 x shapeCasts_S2x64x16x16x16_S2x64x4096 (ix3 b c n) = x (ix5 b c (dep n) (hei n) (wid n)) := by
  pointwise
  rfl

theorem weights_apply (t p : FVec Ideal S16x64 .f32) (g : FVec Ideal S32x64 .f32) (T P : Fin 16 → Fin 64 → ℝ)
    (ht : ∀ c k, t (ix2 c k) = ((T c k : ℝ) : EReal)) (hp : ∀ c k, p (ix2 c k) = ((P c k : ℝ) : EReal)) (c : Fin 64) (hc : c.val < 32)
    (k : Fin 64) :
    concatenate S64x64 0 [⟨S16x64, t⟩, ⟨S16x64, p⟩, ⟨S32x64, g⟩] concatenates_S16x64_S16x64_S32x64_S64x64_d0 (ix2 c k)
      = ((catW T P c k : ℝ) : EReal) := by
  pointwise
  unfold catW
  by_cases h1 : c.val < 16
  · rw [dif_pos h1, dif_pos h1]; exact ht _ _
  · rw [dif_neg h1, dif_neg h1, dif_pos (show c.val - 16 < 16 by omega), dif_pos hc]; exact hp _ _

theorem weights_value (t p : FVec Ideal S16x64 .f32) (g : FVec Ideal S32x64 .f32) (o : Fin 32) (k : Fin 64) :
    concatenate S64x64 0 [⟨S16x64, t⟩, ⟨S16x64, p⟩, ⟨S32x64, g⟩] concatenates_S16x64_S16x64_S32x64_S64x64_d0
      (ix2 (valRow o) k) = g (ix2 o k) := by
  unfold valRow
  pointwise
  rw [dif_neg (show ¬ 32 + o.val < 16 by omega), dif_neg (show ¬ 32 + o.val - 16 < 16 by omega)]
  exact congrArg (fun c => g (ix2 c k)) (Fin.ext (by show 32 + o.val - 16 - 16 = o.val; omega))

theorem biases_apply (t p : FVec Ideal S16 .f32) (g : FVec Ideal S32 .f32) (T P : Fin 16 → ℝ)
    (ht : ∀ c, t (ix1 c) = ((T c : ℝ) : EReal)) (hp : ∀ c, p (ix1 c) = ((P c : ℝ) : EReal)) (c : Fin 64) (hc : c.val < 32) :
    shapeCast S64x1 (concatenate S64 0 [⟨S16, t⟩, ⟨S16, p⟩, ⟨S32, g⟩] concatenates_S16_S16_S32_S64_d0) shapeCasts_S64_S64x1 (ix2 c 0)
      = ((catB T P c : ℝ) : EReal) := by
  pointwise
  unfold catB
  by_cases h1 : c.val < 16
  · rw [dif_pos h1, dif_pos h1]; exact ht _
  · rw [dif_neg h1, dif_neg h1, dif_pos (show c.val - 16 < 16 by omega), dif_pos hc]; exact hp _

theorem biases_value (t p : FVec Ideal S16 .f32) (g : FVec Ideal S32 .f32) (o : Fin 32) :
    shapeCast S64x1 (concatenate S64 0 [⟨S16, t⟩, ⟨S16, p⟩, ⟨S32, g⟩] concatenates_S16_S16_S32_S64_d0) shapeCasts_S64_S64x1
      (ix2 (valRow o) 0) = g (ix1 o) := by
  unfold valRow
  pointwise
  rw [dif_neg (show ¬ 32 + o.val < 16 by omega), dif_neg (show ¬ 32 + o.val - 16 < 16 by omega)]
  exact congrArg (fun c => g (ix1 c)) (Fin.ext (by show 32 + o.val - 16 - 16 = o.val; omega))

theorem vox_parts (d h w : Fin 16) : dep (vox d h w) = d ∧ hei (vox d h w) = h ∧ wid (vox d h w) = w := by
  refine ⟨Fin.ext ?_, Fin.ext ?_, Fin.ext ?_⟩ <;> simp only [vox, dep, hei, wid] <;> omega

/-- The kernel's result on the host's operands is the reference's on the arguments. -/
theorem meet (a0 : FVec Ideal S2x64x16x16x16 .f32) (a1 : FVec Ideal S32x64 .f32) (a2 : FVec Ideal S32 .f32)
    (a3 : FVec Ideal S16x64 .f32) (a4 : FVec Ideal S16 .f32) (a5 : FVec Ideal S16x64 .f32) (a6 : FVec Ideal S16 .f32)
    (a7 : FVec Ideal S64x32 .f32) (a8 : FVec Ideal S64 .f32) (a9 a10 : FVec Ideal S2x64 .f32) (a11 a12 : FVec Ideal S64 .f32)
    (a13 : IVec S4096x46 32)
    (h13 : ∀ n k, a13 (ix2 n k) = BitVec.ofNat 32 (nbr n k).val)
    (h0 : ∀ i, ∃ r : ℝ, a0 i = ((r : EReal) : Ideal .f32)) (h3 : ∀ i, ∃ r : ℝ, a3 i = ((r : EReal) : Ideal .f32))
    (h4 : ∀ i, ∃ r : ℝ, a4 i = ((r : EReal) : Ideal .f32)) (h5 : ∀ i, ∃ r : ℝ, a5 i = ((r : EReal) : Ideal .f32))
    (h6 : ∀ i, ∃ r : ℝ, a6 i = ((r : EReal) : Ideal .f32))
    (h9 : ∀ c, ∃ r : ℝ, a9 (ix2 0 c) = ((r : EReal) : Ideal .f32)) (h10 : ∀ c, ∃ r : ℝ, a10 (ix2 0 c) = ((r : EReal) : Ideal .f32)) :
    kernelV (F := Ideal) (shapeCast S2x64x4096 a0 shapeCasts_S2x64x16x16x16_S2x64x4096)
        (concatenate S64x64 0 [⟨S16x64, a3⟩, ⟨S16x64, a5⟩, ⟨S32x64, a1⟩] concatenates_S16x64_S16x64_S32x64_S64x64_d0)
        (shapeCast S64x1 (concatenate S64 0 [⟨S16, a4⟩, ⟨S16, a6⟩, ⟨S32, a2⟩] concatenates_S16_S16_S32_S64_d0) shapeCasts_S64_S64x1)
        a7 (shapeCast S64x1 a8 shapeCasts_S64_S64x1) (shapeCast S2x64x1 a9 shapeCasts_S2x64_S2x64x1)
        (shapeCast S2x64x1 a10 shapeCasts_S2x64_S2x64x1) (shapeCast S64x1 a11 shapeCasts_S64_S64x1) (shapeCast S64x1 a12 shapeCasts_S64_S64x1)
      = ReferenceIdeal.RVec.finishV a11 a12
          (ReferenceIdeal.RVec.stepV a1 a2 a3 a4 a5 a6 a7 a8 (ReferenceIdeal.RVec.row1 a9) (ReferenceIdeal.RVec.row1 a10) a13
            (ReferenceIdeal.RVec.stepV a1 a2 a3 a4 a5 a6 a7 a8 (ReferenceIdeal.RVec.row0 a9) (ReferenceIdeal.RVec.row0 a10) a13 a0)) := by
  choose X hX using h0
  choose T hT using h3
  choose Bt hBt using h4
  choose P hP using h5
  choose Bp hBp using h6
  choose Ga hGa using h9
  choose Be hBe using h10
  let W := catW (fun c k => T (ix2 c k)) (fun c k => P (ix2 c k))
  let B := catB (fun c => Bt (ix1 c)) (fun c => Bp (ix1 c))
  let G : Fin 32 → Fin 64 → EReal := fun o k => a1 (ix2 o k)
  let Bg : Fin 32 → EReal := fun o => a2 (ix1 o)
  let R : Fin 64 → Fin 32 → EReal := fun c o => a7 (ix2 c o)
  let Br : Fin 64 → EReal := fun c => a8 (ix1 c)
  have kw := weights_apply a3 a5 a1 _ _ (fun c k => hT (ix2 c k)) (fun c k => hP (ix2 c k))
  have kb := biases_apply a4 a6 a2 _ _ (fun c => hBt (ix1 c)) (fun c => hBp (ix1 c))
  have kbr : (fun c : Fin 64 => shapeCast S64x1 a8 shapeCasts_S64_S64x1 (ix2 c 0)) = Br := funext fun c => column_apply a8 c
  let x0 : Act := fun b c n => X (ix5 b c (dep n) (hei n) (wid n))
  have k0 : ∀ b c n, shapeCast S2x64x4096 a0 shapeCasts_S2x64x16x16x16_S2x64x4096 (ix3 b c n) = ((x0 b c n : ℝ) : EReal) :=
    fun b c n => (flat_apply a0 b c n).trans (hX _)
  have r0 : ∀ b c d r w, a0 (ix5 b c d r w) = ((x0 b c (vox d r w) : ℝ) : EReal) := fun b c d r w => by
    show _ = ((X (ix5 b c (dep (vox d r w)) (hei (vox d r w)) (wid (vox d r w))) : ℝ) : EReal)
    rw [(vox_parts d r w).1, (vox_parts d r w).2.1, (vox_parts d r w).2.2]
    exact hX _
  obtain ⟨y, hy, k1⟩ := Vec.stepV_apply _ _ _ a7 (shapeCast S64x1 a8 shapeCasts_S64_S64x1)
    (Vec.row0 (shapeCast S2x64x1 a9 shapeCasts_S2x64_S2x64x1)) (Vec.row0 (shapeCast S2x64x1 a10 shapeCasts_S2x64_S2x64x1))
    x0 W B G Bg k0 kw kb (weights_value a3 a5 a1) (biases_value a4 a6 a2)
  obtain ⟨z, hz, r1⟩ := ReferenceIdeal.RVec.stepV_apply a1 a2 a3 a4 a5 a6 a7 a8 (ReferenceIdeal.RVec.row0 a9)
    (ReferenceIdeal.RVec.row0 a10) a13 a0 x0 _ _ _ _ h13 r0
    (fun c k => hT (ix2 c k)) (fun c => hBt (ix1 c)) (fun c k => hP (ix2 c k)) (fun c => hBp (ix1 c))
  rw [kbr, gnormE_cross R Br y z _ _ hy hz] at k1
  let x1 : Act := fun b c n => x0 b c n + (gnormE (crossE R Br z) b c n * Ga c + Be c)
  have k1' : ∀ b c n, _ = ((x1 b c n : ℝ) : EReal) := fun b c n => (k1 b c n).trans (by
    rw [row0_apply, row0_apply, hGa, hBe, EReal.coe_add, EReal.coe_add, EReal.coe_mul])
  have r1' : ∀ b c d r w, _ = ((x1 b c (vox d r w) : ℝ) : EReal) := fun b c d r w => (r1 b c d r w).trans (by
    rw [ReferenceIdeal.RVec.row0_apply, ReferenceIdeal.RVec.row0_apply, hGa, hBe, EReal.coe_add, EReal.coe_add, EReal.coe_mul])
  obtain ⟨y', hy', k2⟩ := Vec.stepV_apply _ _ _ a7 (shapeCast S64x1 a8 shapeCasts_S64_S64x1)
    (Vec.row1 (shapeCast S2x64x1 a9 shapeCasts_S2x64_S2x64x1)) (Vec.row1 (shapeCast S2x64x1 a10 shapeCasts_S2x64_S2x64x1))
    x1 W B G Bg k1' kw kb (weights_value a3 a5 a1) (biases_value a4 a6 a2)
  obtain ⟨z', hz', r2⟩ := ReferenceIdeal.RVec.stepV_apply a1 a2 a3 a4 a5 a6 a7 a8 (ReferenceIdeal.RVec.row1 a9)
    (ReferenceIdeal.RVec.row1 a10) a13 _ x1 _ _ _ _ h13 r1'
    (fun c k => hT (ix2 c k)) (fun c => hBt (ix1 c)) (fun c k => hP (ix2 c k)) (fun c => hBp (ix1 c))
  rw [kbr, gnormE_cross R Br y' z' _ _ hy' hz'] at k2
  let x2 : ActE := fun b c n =>
    ((x1 b c n : ℝ) : EReal) + (((gnormE (crossE R Br z') b c n : ℝ) : EReal) * a9 (ix2 1 c) + a10 (ix2 1 c))
  have k2' : ∀ b c n, _ = x2 b c n := fun b c n => (k2 b c n).trans (by rw [row1_apply, row1_apply])
  have r2' : ∀ b c d r w, _ = x2 b c (vox d r w) := fun b c d r w => (r2 b c d r w).trans (by
    rw [ReferenceIdeal.RVec.row1_apply, ReferenceIdeal.RVec.row1_apply])
  funext i
  obtain ⟨b, c, n, rfl⟩ : ∃ b c n, i = ix3 b c n := ⟨i 0, i 1, i 2, by ext a; match a with | 0 => rfl | 1 => rfl | 2 => rfl⟩
  refine (Vec.finishV_apply _ _ _ x2 k2' b c n).trans (Eq.trans ?_ (ReferenceIdeal.RVec.finishV_apply _ x2 r2' a11 a12 b c n).symm)
  rw [column_apply, column_apply]

end Cert.KernelIdeal.Entry
-- ==== Proof.lean ====
/-
  The certificate: what every run of the two programs leaves, and that the kernel's result is the reference's.
-/
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Pre
public import proofs.«01_k».proof.Proof.Meet
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- Under the precondition both runs end with one result: the kernel's one grid point writes the whole array, the
    reference's composed term is its last normalisation of the second step, and `meet` equates the two. -/
theorem algebraic : Cert.algebraic_KernelIdeal_ReferenceIdeal_pre_lattice_and_finite
    (hKernelIdeal := Cert.KernelIdeal.Gen.facts) (hReferenceIdeal := Cert.ReferenceIdeal.Gen.facts)
    (hPre_lattice_and_finite := Cert.Pre_lattice_and_finite.facts) := by
  intro m g m' g' hpre hargs
  refine ⟨fun c => (Cert.KernelIdeal.Gen.dats m 0 c).arrAt 9 Cert.KernelIdeal.cfg0.N, Cert.KernelIdeal.Value.run_blocks m g,
    (θ_run _ _ _).mono (fun r h c => ⟨(h c).1.trans (?_ : _ = _), (h c).2⟩) (Cert.ReferenceIdeal.Value.run m' g')⟩
  refine Eq.trans (b := ReferenceIdeal.RVec.resultV (StableHlo.launchContents m' c)) ?_ ?_
  · unfold ReferenceIdeal.RVec.resultV
    rw [← ReferenceIdeal.RVec.step0, ← ReferenceIdeal.RVec.step1]
    sl_kernel_rfl
  refine ((Cert.KernelIdeal.Entry.result_eq m c).trans ?_).symm
  obtain ⟨e0, e1, e2, e3, e4, e5, e6, e7, e8, e9, e10, e11, e12, e13⟩ := hargs c
  obtain ⟨p13, p0, p3, p4, p5, p6, p9, p10⟩ :=
    @Cert.Pre_lattice_and_finite.decode Cert.Pre_lattice_and_finite.facts _ _ _ _ _ _ _ _ _ _ _ _ _ _ ix0 (congrFun (hpre c) ix0)
  rw [Cert.KernelIdeal.Entry.V0, Cert.KernelIdeal.Entry.V1, Cert.KernelIdeal.Entry.V3, Cert.KernelIdeal.Entry.V4,
    Cert.KernelIdeal.Entry.V5, Cert.KernelIdeal.Entry.V6, Cert.KernelIdeal.Entry.V7, Cert.KernelIdeal.Entry.V8, Cert.KernelIdeal.Gen.V_main_arg7]
  refine (Cert.KernelIdeal.Entry.meet _ _ _ _ _ _ _ _ _ _ _ _ _ _ p13 p0 p3 p4 p5 p6 p9 p10).trans ?_
  rw [← e0, ← e1, ← e2, ← e3, ← e4, ← e5, ← e6, ← e7, ← e8, ← e9, ← e10, ← e11, ← e12, ← e13]
  rfl

theorem claim : Cert.Claim :=
  ⟨Cert.Kernel.Gen.facts, Cert.KernelIdeal.Gen.facts, Cert.ReferenceIdeal.Gen.facts, Cert.Pre_lattice_and_finite.facts,
    fun m ρ _ => Cert.Kernel.Gen.frame m ρ, fun m ρ _ => Cert.KernelIdeal.Gen.frame m ρ, fun m ρ _ => Cert.KernelIdeal.Gen.frame m ρ,
    fun m ρ _ => (θ_run Cert.ReferenceIdeal.defs _ _).mono (fun r h => ⟨fun c => (h c).2, sem_eq_zero_of_no_sems (by decide) r.2⟩) (Cert.ReferenceIdeal.Value.run m ρ),
    fun m ρ _ => (θ_run Cert.ReferenceIdeal.defs _ _).mono (fun r h => ⟨fun c => (h c).2, sem_eq_zero_of_no_sems (by decide) r.2⟩) (Cert.ReferenceIdeal.Value.run m ρ),
    trivial, algebraic⟩

end Cert.Proof

end
